-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_copula_inputs [hPre_copula_inputs : Cert.Pre_copula_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_copula_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_copula_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_copula_inputs [hPre_copula_inputs : Cert.Pre_copula_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_copula_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_copula_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_copula_inputs [hKernelIdeal : Cert.KernelIdeal.Facts] [hPre_copula_inputs : Cert.Pre_copula_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_copula_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_copula_inputs [hReferenceIdeal : Cert.ReferenceIdeal.Facts] [hPre_copula_inputs : Cert.Pre_copula_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_copula_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_copula_inputs [hKernelIdeal : Cert.KernelIdeal.Facts] [hReferenceIdeal : Cert.ReferenceIdeal.Facts] [hPre_copula_inputs : Cert.Pre_copula_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_copula_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_copula_inputs : Cert.Pre_copula_inputs.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_copula_inputs (hKernelIdeal := hKernelIdeal) (hPre_copula_inputs := hPre_copula_inputs)
    ∧ quiescent_ReferenceIdeal (hReferenceIdeal := hReferenceIdeal)
    ∧ quiescent_ReferenceIdeal_pre_copula_inputs (hReferenceIdeal := hReferenceIdeal) (hPre_copula_inputs := hPre_copula_inputs)
    ∧ preserves_Kernel_KernelIdeal
    ∧ algebraic_KernelIdeal_ReferenceIdeal_pre_copula_inputs (hKernelIdeal := hKernelIdeal) (hReferenceIdeal := hReferenceIdeal) (hPre_copula_inputs := hPre_copula_inputs)
-- ==== Pre_copula_inputs.lean ====
abbrev S128x1000x200 : Shape := ⟨3, ![128, 1000, 200]⟩
abbrev S128x200 : Shape := ⟨2, ![128, 200]⟩
abbrev S8192x1000 : Shape := ⟨2, ![8192, 1000]⟩
abbrev S_ : Shape := ⟨0, ![]⟩

class Facts : Prop where
  bcast_S_S8192x1000 : S_.BroadcastsInDim S8192x1000 (![] : Fin 0 → Fin S8192x1000.rank)
  bcast_S_S128x200 : S_.BroadcastsInDim S128x200 (![] : Fin 0 → Fin S128x200.rank)

variable [Facts]

def fn {F : FTy → Type} [FloatOps F] (main_arg0 : FVec F S128x1000x200 .f32) (main_arg1 : IVec S128x200 32) (main_arg2 : FVec F S8192x1000 .f32) : IVec S128x200 1 × IVec S8192x1000 1 :=
  let main_cst : FVec F S_ .f32 := constant S_ .f32 0x4B000000#32
  let main_v0 : FVec F S8192x1000 .f32 := broadcastInDim S8192x1000 ![] bcast_S_S8192x1000 main_cst
  let main_v1 : FVec F S8192x1000 .f32 := mulf main_arg2 main_v0
  let main_c : IVec S_ 32 := constantI S_ 32 0#32
  let main_v2 : IVec S128x200 32 := broadcastInDim S128x200 ![] bcast_S_S128x200 main_c
  let main_v3 : IVec S128x200 1 := cmpi .sge main_arg1 main_v2
  let main_c_0 : IVec S_ 32 := constantI S_ 32 8192#32
  let main_v4 : IVec S128x200 32 := broadcastInDim S128x200 ![] bcast_S_S128x200 main_c_0
  let main_v5 : IVec S128x200 1 := cmpi .slt main_arg1 main_v4
  let main_v6 : IVec S128x200 1 := andi main_v3 main_v5
  let main_cst_1 : FVec F S_ .f32 := constant S_ .f32 0x00000000#32
  let main_v7 : FVec F S8192x1000 .f32 := broadcastInDim S8192x1000 ![] bcast_S_S8192x1000 main_cst_1
  let main_v8 : IVec S8192x1000 1 := cmpf .oge main_arg2 main_v7
  let main_cst_2 : FVec F S_ .f32 := constant S_ .f32 0x3F800000#32
  let main_v9 : FVec F S8192x1000 .f32 := broadcastInDim S8192x1000 ![] bcast_S_S8192x1000 main_cst_2
  let main_v10 : IVec S8192x1000 1 := cmpf .olt main_arg2 main_v9
  let main_v11 : IVec S8192x1000 1 := andi main_v8 main_v10
  let main_v12 : FVec F S8192x1000 .f32 := Host.floor main_v1
  let main_v13 : IVec S8192x1000 1 := cmpf .oeq main_v12 main_v1
  let main_v14 : IVec S8192x1000 1 := andi main_v11 main_v13
  (main_v6, main_v14)
-- ==== Pre_indices_in_range.lean ====
abbrev S128x1000x200 : Shape := ⟨3, ![128, 1000, 200]⟩
abbrev S128x200 : Shape := ⟨2, ![128, 200]⟩
abbrev S8192x1000 : Shape := ⟨2, ![8192, 1000]⟩
abbrev S_ : Shape := ⟨0, ![]⟩

class Facts : Prop where
  bcast_S_S128x200 : S_.BroadcastsInDim S128x200 (![] : Fin 0 → Fin S128x200.rank)

variable [Facts]

def fn {F : FTy → Type} [FloatOps F] (main_arg0 : FVec F S128x1000x200 .f32) (main_arg1 : IVec S128x200 32) (main_arg2 : FVec F S8192x1000 .f32) : IVec S128x200 1 :=
  let main_c : IVec S_ 32 := constantI S_ 32 0#32
  let main_v0 : IVec S128x200 32 := broadcastInDim S128x200 ![] bcast_S_S128x200 main_c
  let main_v1 : IVec S128x200 1 := cmpi .sge main_arg1 main_v0
  let main_c_0 : IVec S_ 32 := constantI S_ 32 8192#32
  let main_v2 : IVec S128x200 32 := broadcastInDim S128x200 ![] bcast_S_S128x200 main_c_0
  let main_v3 : IVec S128x200 1 := cmpi .slt main_arg1 main_v2
  let main_v4 : IVec S128x200 1 := andi main_v1 main_v3
  main_v4
-- ==== Kernel.lean ====
abbrev S128x1000x200 : Shape := ⟨3, ![128, 1000, 200]⟩
abbrev S128x200 : Shape := ⟨2, ![128, 200]⟩
abbrev S8192x1000 : Shape := ⟨2, ![8192, 1000]⟩
abbrev S1x1000x200 : Shape := ⟨3, ![1, 1000, 200]⟩
abbrev S256x1000 : Shape := ⟨2, ![256, 1000]⟩
abbrev S1x1 : Shape := ⟨2, ![1, 1]⟩
abbrev S1x1000 : Shape := ⟨2, ![1, 1000]⟩
abbrev S1000x200 : Shape := ⟨2, ![1000, 200]⟩
abbrev S200x1000 : Shape := ⟨2, ![200, 1000]⟩
abbrev S56x1000 : Shape := ⟨2, ![56, 1000]⟩
abbrev S64x2x1x2x1x1000 : Shape := ⟨6, ![64, 2, 1, 2, 1, 1000]⟩
abbrev S64x1x1x1x1x1000 : Shape := ⟨6, ![64, 1, 1, 1, 1, 1000]⟩
abbrev S64x1x1x1000 : Shape := ⟨4, ![64, 1, 1, 1000]⟩
abbrev S64x1x1x1x1000 : Shape := ⟨5, ![64, 1, 1, 1, 1000]⟩
abbrev S64x1x2x1x1000 : Shape := ⟨5, ![64, 1, 2, 1, 1000]⟩
abbrev S64x1x1x2x1x1000 : Shape := ⟨6, ![64, 1, 1, 2, 1, 1000]⟩
abbrev S32x2x1x2x2x1000 : Shape := ⟨6, ![32, 2, 1, 2, 2, 1000]⟩
abbrev S32x1x1x1x2x1000 : Shape := ⟨6, ![32, 1, 1, 1, 2, 1000]⟩
abbrev S32x1x2x1000 : Shape := ⟨4, ![32, 1, 2, 1000]⟩
abbrev S32x1x1x2x1000 : Shape := ⟨5, ![32, 1, 1, 2, 1000]⟩
abbrev S32x1x2x2x1000 : Shape := ⟨5, ![32, 1, 2, 2, 1000]⟩
abbrev S32x1x1x2x2x1000 : Shape := ⟨6, ![32, 1, 1, 2, 2, 1000]⟩
abbrev S32x2x2x2x1x1000 : Shape := ⟨6, ![32, 2, 2, 2, 1, 1000]⟩
abbrev S32x1x2x1x1x1000 : Shape := ⟨6, ![32, 1, 2, 1, 1, 1000]⟩
abbrev S32x2x1x1000 : Shape := ⟨4, ![32, 2, 1, 1000]⟩
abbrev S32x2x1x1x1000 : Shape := ⟨5, ![32, 2, 1, 1, 1000]⟩
abbrev S32x2x2x1x1000 : Shape := ⟨5, ![32, 2, 2, 1, 1000]⟩
abbrev S32x1x2x2x1x1000 : Shape := ⟨6, ![32, 1, 2, 2, 1, 1000]⟩
abbrev S16x2x1x2x4x1000 : Shape := ⟨6, ![16, 2, 1, 2, 4, 1000]⟩
abbrev S16x1x1x1x4x1000 : Shape := ⟨6, ![16, 1, 1, 1, 4, 1000]⟩
abbrev S16x1x4x1000 : Shape := ⟨4, ![16, 1, 4, 1000]⟩
abbrev S16x1x1x4x1000 : Shape := ⟨5, ![16, 1, 1, 4, 1000]⟩
abbrev S16x1x2x4x1000 : Shape := ⟨5, ![16, 1, 2, 4, 1000]⟩
abbrev S16x1x1x2x4x1000 : Shape := ⟨6, ![16, 1, 1, 2, 4, 1000]⟩
abbrev S16x2x2x2x2x1000 : Shape := ⟨6, ![16, 2, 2, 2, 2, 1000]⟩
abbrev S16x1x2x1x2x1000 : Shape := ⟨6, ![16, 1, 2, 1, 2, 1000]⟩
abbrev S16x2x2x1000 : Shape := ⟨4, ![16, 2, 2, 1000]⟩
abbrev S16x2x1x2x1000 : Shape := ⟨5, ![16, 2, 1, 2, 1000]⟩
abbrev S16x2x2x2x1000 : Shape := ⟨5, ![16, 2, 2, 2, 1000]⟩
abbrev S16x1x2x2x2x1000 : Shape := ⟨6, ![16, 1, 2, 2, 2, 1000]⟩
abbrev S16x2x4x2x1x1000 : Shape := ⟨6, ![16, 2, 4, 2, 1, 1000]⟩
abbrev S16x1x4x1x1x1000 : Shape := ⟨6, ![16, 1, 4, 1, 1, 1000]⟩
abbrev S16x4x1x1000 : Shape := ⟨4, ![16, 4, 1, 1000]⟩
abbrev S16x4x1x1x1000 : Shape := ⟨5, ![16, 4, 1, 1, 1000]⟩
abbrev S16x4x2x1x1000 : Shape := ⟨5, ![16, 4, 2, 1, 1000]⟩
abbrev S16x1x4x2x1x1000 : Shape := ⟨6, ![16, 1, 4, 2, 1, 1000]⟩
abbrev S8x2x1x2x8x1000 : Shape := ⟨6, ![8, 2, 1, 2, 8, 1000]⟩
abbrev S8x1x1x1x8x1000 : Shape := ⟨6, ![8, 1, 1, 1, 8, 1000]⟩
abbrev S8x1x8x1000 : Shape := ⟨4, ![8, 1, 8, 1000]⟩
abbrev S8x1x1x8x1000 : Shape := ⟨5, ![8, 1, 1, 8, 1000]⟩
abbrev S8x1x2x8x1000 : Shape := ⟨5, ![8, 1, 2, 8, 1000]⟩
abbrev S8x1x1x2x8x1000 : Shape := ⟨6, ![8, 1, 1, 2, 8, 1000]⟩
abbrev S8x2x2x2x4x1000 : Shape := ⟨6, ![8, 2, 2, 2, 4, 1000]⟩
abbrev S8x1x2x1x4x1000 : Shape := ⟨6, ![8, 1, 2, 1, 4, 1000]⟩
abbrev S8x2x4x1000 : Shape := ⟨4, ![8, 2, 4, 1000]⟩
abbrev S8x2x1x4x1000 : Shape := ⟨5, ![8, 2, 1, 4, 1000]⟩
abbrev S8x2x2x4x1000 : Shape := ⟨5, ![8, 2, 2, 4, 1000]⟩
abbrev S8x1x2x2x4x1000 : Shape := ⟨6, ![8, 1, 2, 2, 4, 1000]⟩
abbrev S8x2x4x2x2x1000 : Shape := ⟨6, ![8, 2, 4, 2, 2, 1000]⟩
abbrev S8x1x4x1x2x1000 : Shape := ⟨6, ![8, 1, 4, 1, 2, 1000]⟩
abbrev S8x4x2x1000 : Shape := ⟨4, ![8, 4, 2, 1000]⟩
abbrev S8x4x1x2x1000 : Shape := ⟨5, ![8, 4, 1, 2, 1000]⟩
abbrev S8x4x2x2x1000 : Shape := ⟨5, ![8, 4, 2, 2, 1000]⟩
abbrev S8x1x4x2x2x1000 : Shape := ⟨6, ![8, 1, 4, 2, 2, 1000]⟩
abbrev S8x2x8x2x1x1000 : Shape := ⟨6, ![8, 2, 8, 2, 1, 1000]⟩
abbrev S8x1x8x1x1x1000 : Shape := ⟨6, ![8, 1, 8, 1, 1, 1000]⟩
abbrev S8x8x1x1000 : Shape := ⟨4, ![8, 8, 1, 1000]⟩
abbrev S8x8x1x1x1000 : Shape := ⟨5, ![8, 8, 1, 1, 1000]⟩
abbrev S8x8x2x1x1000 : Shape := ⟨5, ![8, 8, 2, 1, 1000]⟩
abbrev S8x1x8x2x1x1000 : Shape := ⟨6, ![8, 1, 8, 2, 1, 1000]⟩
abbrev S4x2x1x2x16x1000 : Shape := ⟨6, ![4, 2, 1, 2, 16, 1000]⟩
abbrev S4x1x1x1x16x1000 : Shape := ⟨6, ![4, 1, 1, 1, 16, 1000]⟩
abbrev S4x1x16x1000 : Shape := ⟨4, ![4, 1, 16, 1000]⟩
abbrev S4x1x1x16x1000 : Shape := ⟨5, ![4, 1, 1, 16, 1000]⟩
abbrev S4x1x2x16x1000 : Shape := ⟨5, ![4, 1, 2, 16, 1000]⟩
abbrev S4x1x1x2x16x1000 : Shape := ⟨6, ![4, 1, 1, 2, 16, 1000]⟩
abbrev S4x2x2x2x8x1000 : Shape := ⟨6, ![4, 2, 2, 2, 8, 1000]⟩
abbrev S4x1x2x1x8x1000 : Shape := ⟨6, ![4, 1, 2, 1, 8, 1000]⟩
abbrev S4x2x8x1000 : Shape := ⟨4, ![4, 2, 8, 1000]⟩
abbrev S4x2x1x8x1000 : Shape := ⟨5, ![4, 2, 1, 8, 1000]⟩
abbrev S4x2x2x8x1000 : Shape := ⟨5, ![4, 2, 2, 8, 1000]⟩
abbrev S4x1x2x2x8x1000 : Shape := ⟨6, ![4, 1, 2, 2, 8, 1000]⟩
abbrev S4x2x4x2x4x1000 : Shape := ⟨6, ![4, 2, 4, 2, 4, 1000]⟩
abbrev S4x1x4x1x4x1000 : Shape := ⟨6, ![4, 1, 4, 1, 4, 1000]⟩
abbrev S4x4x4x1000 : Shape := ⟨4, ![4, 4, 4, 1000]⟩
abbrev S4x4x1x4x1000 : Shape := ⟨5, ![4, 4, 1, 4, 1000]⟩
abbrev S4x4x2x4x1000 : Shape := ⟨5, ![4, 4, 2, 4, 1000]⟩
abbrev S4x1x4x2x4x1000 : Shape := ⟨6, ![4, 1, 4, 2, 4, 1000]⟩
abbrev S4x2x8x2x2x1000 : Shape := ⟨6, ![4, 2, 8, 2, 2, 1000]⟩
abbrev S4x1x8x1x2x1000 : Shape := ⟨6, ![4, 1, 8, 1, 2, 1000]⟩
abbrev S4x8x2x1000 : Shape := ⟨4, ![4, 8, 2, 1000]⟩
abbrev S4x8x1x2x1000 : Shape := ⟨5, ![4, 8, 1, 2, 1000]⟩
abbrev S4x8x2x2x1000 : Shape := ⟨5, ![4, 8, 2, 2, 1000]⟩
abbrev S4x1x8x2x2x1000 : Shape := ⟨6, ![4, 1, 8, 2, 2, 1000]⟩
abbrev S4x2x16x2x1x1000 : Shape := ⟨6, ![4, 2, 16, 2, 1, 1000]⟩
abbrev S4x1x16x1x1x1000 : Shape := ⟨6, ![4, 1, 16, 1, 1, 1000]⟩
abbrev S4x16x1x1000 : Shape := ⟨4, ![4, 16, 1, 1000]⟩
abbrev S4x16x1x1x1000 : Shape := ⟨5, ![4, 16, 1, 1, 1000]⟩
abbrev S4x16x2x1x1000 : Shape := ⟨5, ![4, 16, 2, 1, 1000]⟩
abbrev S4x1x16x2x1x1000 : Shape := ⟨6, ![4, 1, 16, 2, 1, 1000]⟩
abbrev S2x2x1x2x32x1000 : Shape := ⟨6, ![2, 2, 1, 2, 32, 1000]⟩
abbrev S2x1x1x1x32x1000 : Shape := ⟨6, ![2, 1, 1, 1, 32, 1000]⟩
abbrev S2x1x32x1000 : Shape := ⟨4, ![2, 1, 32, 1000]⟩
abbrev S2x1x1x32x1000 : Shape := ⟨5, ![2, 1, 1, 32, 1000]⟩
abbrev S2x1x2x32x1000 : Shape := ⟨5, ![2, 1, 2, 32, 1000]⟩
abbrev S2x1x1x2x32x1000 : Shape := ⟨6, ![2, 1, 1, 2, 32, 1000]⟩
abbrev S2x2x2x2x16x1000 : Shape := ⟨6, ![2, 2, 2, 2, 16, 1000]⟩
abbrev S2x1x2x1x16x1000 : Shape := ⟨6, ![2, 1, 2, 1, 16, 1000]⟩
abbrev S2x2x16x1000 : Shape := ⟨4, ![2, 2, 16, 1000]⟩
abbrev S2x2x1x16x1000 : Shape := ⟨5, ![2, 2, 1, 16, 1000]⟩
abbrev S2x2x2x16x1000 : Shape := ⟨5, ![2, 2, 2, 16, 1000]⟩
abbrev S2x1x2x2x16x1000 : Shape := ⟨6, ![2, 1, 2, 2, 16, 1000]⟩
abbrev S2x2x4x2x8x1000 : Shape := ⟨6, ![2, 2, 4, 2, 8, 1000]⟩
abbrev S2x1x4x1x8x1000 : Shape := ⟨6, ![2, 1, 4, 1, 8, 1000]⟩
abbrev S2x4x8x1000 : Shape := ⟨4, ![2, 4, 8, 1000]⟩
abbrev S2x4x1x8x1000 : Shape := ⟨5, ![2, 4, 1, 8, 1000]⟩
abbrev S2x4x2x8x1000 : Shape := ⟨5, ![2, 4, 2, 8, 1000]⟩
abbrev S2x1x4x2x8x1000 : Shape := ⟨6, ![2, 1, 4, 2, 8, 1000]⟩
abbrev S2x2x8x2x4x1000 : Shape := ⟨6, ![2, 2, 8, 2, 4, 1000]⟩
abbrev S2x1x8x1x4x1000 : Shape := ⟨6, ![2, 1, 8, 1, 4, 1000]⟩
abbrev S2x8x4x1000 : Shape := ⟨4, ![2, 8, 4, 1000]⟩
abbrev S2x8x1x4x1000 : Shape := ⟨5, ![2, 8, 1, 4, 1000]⟩
abbrev S2x8x2x4x1000 : Shape := ⟨5, ![2, 8, 2, 4, 1000]⟩
abbrev S2x1x8x2x4x1000 : Shape := ⟨6, ![2, 1, 8, 2, 4, 1000]⟩
abbrev S2x2x16x2x2x1000 : Shape := ⟨6, ![2, 2, 16, 2, 2, 1000]⟩
abbrev S2x1x16x1x2x1000 : Shape := ⟨6, ![2, 1, 16, 1, 2, 1000]⟩
abbrev S2x16x2x1000 : Shape := ⟨4, ![2, 16, 2, 1000]⟩
abbrev S2x16x1x2x1000 : Shape := ⟨5, ![2, 16, 1, 2, 1000]⟩
abbrev S2x16x2x2x1000 : Shape := ⟨5, ![2, 16, 2, 2, 1000]⟩
abbrev S2x1x16x2x2x1000 : Shape := ⟨6, ![2, 1, 16, 2, 2, 1000]⟩
abbrev S2x2x32x2x1x1000 : Shape := ⟨6, ![2, 2, 32, 2, 1, 1000]⟩
abbrev S2x1x32x1x1x1000 : Shape := ⟨6, ![2, 1, 32, 1, 1, 1000]⟩
abbrev S2x32x1x1000 : Shape := ⟨4, ![2, 32, 1, 1000]⟩
abbrev S2x32x1x1x1000 : Shape := ⟨5, ![2, 32, 1, 1, 1000]⟩
abbrev S2x32x2x1x1000 : Shape := ⟨5, ![2, 32, 2, 1, 1000]⟩
abbrev S2x1x32x2x1x1000 : Shape := ⟨6, ![2, 1, 32, 2, 1, 1000]⟩
abbrev S1x2x1x2x64x1000 : Shape := ⟨6, ![1, 2, 1, 2, 64, 1000]⟩
abbrev S1x1x1x1x64x1000 : Shape := ⟨6, ![1, 1, 1, 1, 64, 1000]⟩
abbrev S1x1x64x1000 : Shape := ⟨4, ![1, 1, 64, 1000]⟩
abbrev S1x1x1x64x1000 : Shape := ⟨5, ![1, 1, 1, 64, 1000]⟩
abbrev S1x1x2x64x1000 : Shape := ⟨5, ![1, 1, 2, 64, 1000]⟩
abbrev S1x1x1x2x64x1000 : Shape := ⟨6, ![1, 1, 1, 2, 64, 1000]⟩
abbrev S1x2x2x2x32x1000 : Shape := ⟨6, ![1, 2, 2, 2, 32, 1000]⟩
abbrev S1x1x2x1x32x1000 : Shape := ⟨6, ![1, 1, 2, 1, 32, 1000]⟩
abbrev S1x2x32x1000 : Shape := ⟨4, ![1, 2, 32, 1000]⟩
abbrev S1x2x1x32x1000 : Shape := ⟨5, ![1, 2, 1, 32, 1000]⟩
abbrev S1x2x2x32x1000 : Shape := ⟨5, ![1, 2, 2, 32, 1000]⟩
abbrev S1x1x2x2x32x1000 : Shape := ⟨6, ![1, 1, 2, 2, 32, 1000]⟩
abbrev S1x2x4x2x16x1000 : Shape := ⟨6, ![1, 2, 4, 2, 16, 1000]⟩
abbrev S1x1x4x1x16x1000 : Shape := ⟨6, ![1, 1, 4, 1, 16, 1000]⟩
abbrev S1x4x16x1000 : Shape := ⟨4, ![1, 4, 16, 1000]⟩
abbrev S1x4x1x16x1000 : Shape := ⟨5, ![1, 4, 1, 16, 1000]⟩
abbrev S1x4x2x16x1000 : Shape := ⟨5, ![1, 4, 2, 16, 1000]⟩
abbrev S1x1x4x2x16x1000 : Shape := ⟨6, ![1, 1, 4, 2, 16, 1000]⟩
abbrev S1x2x8x2x8x1000 : Shape := ⟨6, ![1, 2, 8, 2, 8, 1000]⟩
abbrev S1x1x8x1x8x1000 : Shape := ⟨6, ![1, 1, 8, 1, 8, 1000]⟩
abbrev S1x8x8x1000 : Shape := ⟨4, ![1, 8, 8, 1000]⟩
abbrev S1x8x1x8x1000 : Shape := ⟨5, ![1, 8, 1, 8, 1000]⟩
abbrev S1x8x2x8x1000 : Shape := ⟨5, ![1, 8, 2, 8, 1000]⟩
abbrev S1x1x8x2x8x1000 : Shape := ⟨6, ![1, 1, 8, 2, 8, 1000]⟩
abbrev S1x2x16x2x4x1000 : Shape := ⟨6, ![1, 2, 16, 2, 4, 1000]⟩
abbrev S1x1x16x1x4x1000 : Shape := ⟨6, ![1, 1, 16, 1, 4, 1000]⟩
abbrev S1x16x4x1000 : Shape := ⟨4, ![1, 16, 4, 1000]⟩
abbrev S1x16x1x4x1000 : Shape := ⟨5, ![1, 16, 1, 4, 1000]⟩
abbrev S1x16x2x4x1000 : Shape := ⟨5, ![1, 16, 2, 4, 1000]⟩
abbrev S1x1x16x2x4x1000 : Shape := ⟨6, ![1, 1, 16, 2, 4, 1000]⟩
abbrev S1x2x32x2x2x1000 : Shape := ⟨6, ![1, 2, 32, 2, 2, 1000]⟩
abbrev S1x1x32x1x2x1000 : Shape := ⟨6, ![1, 1, 32, 1, 2, 1000]⟩
abbrev S1x32x2x1000 : Shape := ⟨4, ![1, 32, 2, 1000]⟩
abbrev S1x32x1x2x1000 : Shape := ⟨5, ![1, 32, 1, 2, 1000]⟩
abbrev S1x32x2x2x1000 : Shape := ⟨5, ![1, 32, 2, 2, 1000]⟩
abbrev S1x1x32x2x2x1000 : Shape := ⟨6, ![1, 1, 32, 2, 2, 1000]⟩
abbrev S1x2x64x2x1x1000 : Shape := ⟨6, ![1, 2, 64, 2, 1, 1000]⟩
abbrev S1x1x64x1x1x1000 : Shape := ⟨6, ![1, 1, 64, 1, 1, 1000]⟩
abbrev S1x64x1x1000 : Shape := ⟨4, ![1, 64, 1, 1000]⟩
abbrev S1x64x1x1x1000 : Shape := ⟨5, ![1, 64, 1, 1, 1000]⟩
abbrev S1x64x2x1x1000 : Shape := ⟨5, ![1, 64, 2, 1, 1000]⟩
abbrev S1x1x64x2x1x1000 : Shape := ⟨6, ![1, 1, 64, 2, 1, 1000]⟩
abbrev S1x1x1x2x128x1000 : Shape := ⟨6, ![1, 1, 1, 2, 128, 1000]⟩
abbrev S1x1x1x1x128x1000 : Shape := ⟨6, ![1, 1, 1, 1, 128, 1000]⟩
abbrev S1x1x128x1000 : Shape := ⟨4, ![1, 1, 128, 1000]⟩
abbrev S1x1x1x128x1000 : Shape := ⟨5, ![1, 1, 1, 128, 1000]⟩
abbrev S1x1x2x128x1000 : Shape := ⟨5, ![1, 1, 2, 128, 1000]⟩
abbrev S1x1x2x2x64x1000 : Shape := ⟨6, ![1, 1, 2, 2, 64, 1000]⟩
abbrev S1x1x2x1x64x1000 : Shape := ⟨6, ![1, 1, 2, 1, 64, 1000]⟩
abbrev S1x2x64x1000 : Shape := ⟨4, ![1, 2, 64, 1000]⟩
abbrev S1x2x1x64x1000 : Shape := ⟨5, ![1, 2, 1, 64, 1000]⟩
abbrev S1x2x2x64x1000 : Shape := ⟨5, ![1, 2, 2, 64, 1000]⟩
abbrev S1x1x4x2x32x1000 : Shape := ⟨6, ![1, 1, 4, 2, 32, 1000]⟩
abbrev S1x1x4x1x32x1000 : Shape := ⟨6, ![1, 1, 4, 1, 32, 1000]⟩
abbrev S1x4x32x1000 : Shape := ⟨4, ![1, 4, 32, 1000]⟩
abbrev S1x4x1x32x1000 : Shape := ⟨5, ![1, 4, 1, 32, 1000]⟩
abbrev S1x4x2x32x1000 : Shape := ⟨5, ![1, 4, 2, 32, 1000]⟩
abbrev S1x1x8x2x16x1000 : Shape := ⟨6, ![1, 1, 8, 2, 16, 1000]⟩
abbrev S1x1x8x1x16x1000 : Shape := ⟨6, ![1, 1, 8, 1, 16, 1000]⟩
abbrev S1x8x16x1000 : Shape := ⟨4, ![1, 8, 16, 1000]⟩
abbrev S1x8x1x16x1000 : Shape := ⟨5, ![1, 8, 1, 16, 1000]⟩
abbrev S1x8x2x16x1000 : Shape := ⟨5, ![1, 8, 2, 16, 1000]⟩
abbrev S1x1x16x2x8x1000 : Shape := ⟨6, ![1, 1, 16, 2, 8, 1000]⟩
abbrev S1x1x16x1x8x1000 : Shape := ⟨6, ![1, 1, 16, 1, 8, 1000]⟩
abbrev S1x16x8x1000 : Shape := ⟨4, ![1, 16, 8, 1000]⟩
abbrev S1x16x1x8x1000 : Shape := ⟨5, ![1, 16, 1, 8, 1000]⟩
abbrev S1x16x2x8x1000 : Shape := ⟨5, ![1, 16, 2, 8, 1000]⟩
abbrev S1x1x32x2x4x1000 : Shape := ⟨6, ![1, 1, 32, 2, 4, 1000]⟩
abbrev S1x1x32x1x4x1000 : Shape := ⟨6, ![1, 1, 32, 1, 4, 1000]⟩
abbrev S1x32x4x1000 : Shape := ⟨4, ![1, 32, 4, 1000]⟩
abbrev S1x32x1x4x1000 : Shape := ⟨5, ![1, 32, 1, 4, 1000]⟩
abbrev S1x32x2x4x1000 : Shape := ⟨5, ![1, 32, 2, 4, 1000]⟩
abbrev S1x1x64x2x2x1000 : Shape := ⟨6, ![1, 1, 64, 2, 2, 1000]⟩
abbrev S1x1x64x1x2x1000 : Shape := ⟨6, ![1, 1, 64, 1, 2, 1000]⟩
abbrev S1x64x2x1000 : Shape := ⟨4, ![1, 64, 2, 1000]⟩
abbrev S1x64x1x2x1000 : Shape := ⟨5, ![1, 64, 1, 2, 1000]⟩
abbrev S1x64x2x2x1000 : Shape := ⟨5, ![1, 64, 2, 2, 1000]⟩
abbrev S1x1x128x2x1x1000 : Shape := ⟨6, ![1, 1, 128, 2, 1, 1000]⟩
abbrev S1x1x128x1x1x1000 : Shape := ⟨6, ![1, 1, 128, 1, 1, 1000]⟩
abbrev S1x128x1x1000 : Shape := ⟨4, ![1, 128, 1, 1000]⟩
abbrev S1x128x1x1x1000 : Shape := ⟨5, ![1, 128, 1, 1, 1000]⟩
abbrev S1x128x2x1x1000 : Shape := ⟨5, ![1, 128, 2, 1, 1000]⟩

abbrev nBuf : Space → Nat
  | .hbm => 3
  | .vmem => 6
  | .smem => 1
  | _ => 0

abbrev bufTy : (tb : Table) → Fin (tcTables nBuf tb) → BufTy
  | .hbm, ⟨0, _⟩ => ⟨S128x1000x200, .f32⟩
  | .hbm, ⟨1, _⟩ => ⟨S8192x1000, .f32⟩
  | .hbm, ⟨2, _⟩ => ⟨S128x1000x200, .f32⟩
  | .local _ .vmem, ⟨0, _⟩ => ⟨S1x1000x200, .f32⟩
  | .local _ .vmem, ⟨1, _⟩ => ⟨S1x1000x200, .f32⟩
  | .local _ .vmem, ⟨2, _⟩ => ⟨S8192x1000, .f32⟩
  | .local _ .vmem, ⟨3, _⟩ => ⟨S1x1000x200, .f32⟩
  | .local _ .vmem, ⟨4, _⟩ => ⟨S1x1000x200, .f32⟩
  | .local _ .vmem, ⟨5, _⟩ => ⟨S256x1000, .f32⟩
  | .local _ .smem, ⟨0, _⟩ => ⟨S128x200, .i32⟩
  | _, _ => ⟨S128x1000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c200_i32 : BitVec 32 := 200#32
  let v0 : BitVec 32 := Scalar.addi c0_i32 c200_i32
  let c1_i32 : BitVec 32 := 1#32
  ⟨c0_i32, v0, c1_i32⟩
def k0_off1 (i : grid0.Coords) (k0_t1 : Fin k0_t1_loop.trips) : Fin 2 → Nat :=
  let arg0 : BitVec 32 := BitVec.ofNat 32 (i 0).val
  let v3042 : Index := Scalar.indexCast arg0
  let c0_i32 : BitVec 32 := 0#32
  let c1_i32 : BitVec 32 := 1#32
  let arg6 : BitVec 32 := Scf.iv c0_i32 c1_i32 k0_t1
  let v3043 : Index := Scalar.indexCast arg6
  ![v3042.toNat, v3043.toNat]
def k0_off2 (v3044 : BitVec 32) : Fin 2 → Nat :=
  let v3045 : Index := Scalar.indexCast v3044
  let c0_10 : Index := 0#32
  ![v3045.toNat, 0]

def k0_chk1 (v3044 : BitVec 32) : Prop :=
  (∀ a, (k0_off2 v3044) a + S1x1000.size a ≤ S8192x1000.size a)
theorem k0_off2_inb : ∀ (v3044 : BitVec 32) (k0_hw1 : k0_chk1 v3044), ∀ a, (k0_off2 v3044) a + S1x1000.size a ≤ S8192x1000.size a := fun v3044 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let v3047 : Index := Scalar.indexCast arg6
  let c0_11 : Index := 0#32
  ![v3047.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1000x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x1000x200 : Shape := ⟨3, ![128, 1000, 200]⟩
abbrev S128x200 : Shape := ⟨2, ![128, 200]⟩
abbrev S8192x1000 : Shape := ⟨2, ![8192, 1000]⟩
abbrev S_ : Shape := ⟨0, ![]⟩
abbrev S128x200x1 : Shape := ⟨3, ![128, 200, 1]⟩
abbrev S1 : Shape := ⟨1, ![1]⟩
abbrev S1x1x1 : Shape := ⟨3, ![1, 1, 1]⟩
abbrev S128x200x1000 : Shape := ⟨3, ![128, 200, 1000]⟩
abbrev S128x1000x200x1 : Shape := ⟨4, ![128, 1000, 200, 1]⟩
abbrev S1x1x1x1 : Shape := ⟨4, ![1, 1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S128x1000x200, .f32⟩
  | .hbm, ⟨1, _⟩ => ⟨S128x200, .i32⟩
  | .hbm, ⟨2, _⟩ => ⟨S8192x1000, .f32⟩
  | .hbm, ⟨3, _⟩ => ⟨S128x1000x200, .f32⟩
  | .hbm, ⟨4, _⟩ => ⟨S_, .i32⟩
  | .hbm, ⟨5, _⟩ => ⟨S128x200, .i32⟩
  | .hbm, ⟨6, _⟩ => ⟨S128x200, .i1⟩
  | .hbm, ⟨7, _⟩ => ⟨S_, .i32⟩
  | .hbm, ⟨8, _⟩ => ⟨S128x200, .i32⟩
  | .hbm, ⟨9, _⟩ => ⟨S128x200, .i32⟩
  | .hbm, ⟨10, _⟩ => ⟨S128x200, .i32⟩
  | .hbm, ⟨11, _⟩ => ⟨S128x200x1, .i32⟩
  | .hbm, ⟨12, _⟩ => ⟨S1, .i32⟩
  | .hbm, ⟨13, _⟩ => ⟨S_, .i32⟩
  | .hbm, ⟨14, _⟩ => ⟨S128x200x1, .i32⟩
  | .hbm, ⟨15, _⟩ => ⟨S128x200x1, .i1⟩
  | .hbm, ⟨16, _⟩ => ⟨S1x1x1, .i32⟩
  | .hbm, ⟨17, _⟩ => ⟨S128x200x1, .i32⟩
  | .hbm, ⟨18, _⟩ => ⟨S128x200x1, .i1⟩
  | .hbm, ⟨19, _⟩ => ⟨S128x200x1, .i1⟩
  | .hbm, ⟨20, _⟩ => ⟨S_, .i1⟩
  | .hbm, ⟨21, _⟩ => ⟨S128x200, .i1⟩
  | .hbm, ⟨22, _⟩ => ⟨S128x200x1000, .f32⟩
  | .hbm, ⟨23, _⟩ => ⟨S128x200x1000, .i1⟩
  | .hbm, ⟨24, _⟩ => ⟨S_, .f32⟩
  | .hbm, ⟨25, _⟩ => ⟨S128x200x1000, .f32⟩
  | .hbm, ⟨26, _⟩ => ⟨S128x200x1000, .f32⟩
  | .hbm, ⟨27, _⟩ => ⟨S128x200x1000, .i32⟩
  | .hbm, ⟨28, _⟩ => ⟨S128x200x1000, .f32⟩
  | .hbm, ⟨29, _⟩ => ⟨S128x200x1000, .i32⟩
  | .hbm, ⟨30, _⟩ => ⟨S128x200x1000, .i32⟩
  | .hbm, ⟨31, _⟩ => ⟨S128x200x1000, .i32⟩
  | .hbm, ⟨32, _⟩ => ⟨S128x200x1000, .i32⟩
  | .hbm, ⟨33, _⟩ => ⟨S128x1000x200, .i32⟩
  | .hbm, ⟨34, _⟩ => ⟨S_, .i32⟩
  | .hbm, ⟨35, _⟩ => ⟨S128x1000x200, .i32⟩
  | .hbm, ⟨36, _⟩ => ⟨S128x1000x200, .i1⟩
  | .hbm, ⟨37, _⟩ => ⟨S_, .i32⟩
  | .hbm, ⟨38, _⟩ => ⟨S128x1000x200, .i32⟩
  | .hbm, ⟨39, _⟩ => ⟨S128x1000x200, .i32⟩
  | .hbm, ⟨40, _⟩ => ⟨S128x1000x200, .i32⟩
  | .hbm, ⟨41, _⟩ => ⟨S128x1000x200x1, .i32⟩
  | .hbm, ⟨42, _⟩ => ⟨S1, .i32⟩
  | .hbm, ⟨43, _⟩ => ⟨S_, .i32⟩
  | .hbm, ⟨44, _⟩ => ⟨S128x1000x200x1, .i32⟩
  | .hbm, ⟨45, _⟩ => ⟨S128x1000x200x1, .i1⟩
  | .hbm, ⟨46, _⟩ => ⟨S1x1x1x1, .i32⟩
  | .hbm, ⟨47, _⟩ => ⟨S128x1000x200x1, .i32⟩
  | .hbm, ⟨48, _⟩ => ⟨S128x1000x200x1, .i1⟩
  | .hbm, ⟨49, _⟩ => ⟨S128x1000x200x1, .i1⟩
  | .hbm, ⟨50, _⟩ => ⟨S_, .i1⟩
  | .hbm, ⟨51, _⟩ => ⟨S128x1000x200, .i1⟩
  | .hbm, ⟨52, _⟩ => ⟨S128x1000x200, .f32⟩
  | .hbm, ⟨53, _⟩ => ⟨S_, .f32⟩
  | .hbm, ⟨54, _⟩ => ⟨S128x1000x200, .f32⟩
  | .hbm, ⟨55, _⟩ => ⟨S128x1000x200, .f32⟩
  | _, _ => ⟨S128x1000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call1_c : Ref sig .tc := ⟨.hbm, 4, rfl⟩
abbrev main_call1_v0 : Ref sig .tc := ⟨.hbm, 5, rfl⟩
abbrev main_call1_v1 : Ref sig .tc := ⟨.hbm, 6, rfl⟩
abbrev main_call1_c_0 : Ref sig .tc := ⟨.hbm, 7, rfl⟩
abbrev main_call1_v2 : Ref sig .tc := ⟨.hbm, 8, rfl⟩
abbrev main_call1_v3 : Ref sig .tc := ⟨.hbm, 9, rfl⟩
abbrev main_call1_v4 : Ref sig .tc := ⟨.hbm, 10, rfl⟩
abbrev main_call1_v5 : Ref sig .tc := ⟨.hbm, 11, rfl⟩
abbrev main_call1_c_1 : Ref sig .tc := ⟨.hbm, 12, rfl⟩
abbrev main_call1_c_2 : Ref sig .tc := ⟨.hbm, 13, rfl⟩
abbrev main_call1_v6 : Ref sig .tc := ⟨.hbm, 14, rfl⟩
abbrev main_call1_v7 : Ref sig .tc := ⟨.hbm, 15, rfl⟩
abbrev main_call1_v8 : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_3 : Ref sig .tc := ⟨.hbm, 20, rfl⟩
abbrev main_call1_v12 : Ref sig .tc := ⟨.hbm, 21, rfl⟩
abbrev main_call1_v13 : Ref sig .tc := ⟨.hbm, 22, rfl⟩
abbrev main_call1_v14 : Ref sig .tc := ⟨.hbm, 23, rfl⟩
abbrev main_call1_cst : Ref sig .tc := ⟨.hbm, 24, rfl⟩
abbrev main_call1_v15 : Ref sig .tc := ⟨.hbm, 25, rfl⟩
abbrev main_v1 : Ref sig .tc := ⟨.hbm, 26, rfl⟩
abbrev main_call2_v0 : Ref sig .tc := ⟨.hbm, 27, rfl⟩
abbrev main_call2_v1_0 : Ref sig .tc := ⟨.hbm, 28, rfl⟩
abbrev main_v2 : Ref sig .tc := ⟨.hbm, 29, rfl⟩
abbrev main_call3_v0 : Ref sig .tc := ⟨.hbm, 30, rfl⟩
abbrev main_call3_v1_0 : Ref sig .tc := ⟨.hbm, 31, rfl⟩
abbrev main_v3 : Ref sig .tc := ⟨.hbm, 32, rfl⟩
abbrev main_v4 : Ref sig .tc := ⟨.hbm, 33, rfl⟩
abbrev main_call4_c : Ref sig .tc := ⟨.hbm, 34, rfl⟩
abbrev main_call4_v0 : Ref sig .tc := ⟨.hbm, 35, rfl⟩
abbrev main_call4_v1 : Ref sig .tc := ⟨.hbm, 36, rfl⟩
abbrev main_call4_c_0 : Ref sig .tc := ⟨.hbm, 37, rfl⟩
abbrev main_call4_v2 : Ref sig .tc := ⟨.hbm, 38, rfl⟩
abbrev main_call4_v3 : Ref sig .tc := ⟨.hbm, 39, rfl⟩
abbrev main_call4_v4 : Ref sig .tc := ⟨.hbm, 40, rfl⟩
abbrev main_call4_v5 : Ref sig .tc := ⟨.hbm, 41, rfl⟩
abbrev main_call4_c_1 : Ref sig .tc := ⟨.hbm, 42, rfl⟩
abbrev main_call4_c_2 : Ref sig .tc := ⟨.hbm, 43, rfl⟩
abbrev main_call4_v6 : Ref sig .tc := ⟨.hbm, 44, rfl⟩
abbrev main_call4_v7 : Ref sig .tc := ⟨.hbm, 45, rfl⟩
abbrev main_call4_v8 : Ref sig .tc := ⟨.hbm, 46, rfl⟩
abbrev main_call4_v9 : Ref sig .tc := ⟨.hbm, 47, rfl⟩
abbrev main_call4_v10 : Ref sig .tc := ⟨.hbm, 48, rfl⟩
abbrev main_call4_v11 : Ref sig .tc := ⟨.hbm, 49, rfl⟩
abbrev main_call4_c_3 : Ref sig .tc := ⟨.hbm, 50, rfl⟩
abbrev main_call4_v12 : Ref sig .tc := ⟨.hbm, 51, rfl⟩
abbrev main_call4_v13 : Ref sig .tc := ⟨.hbm, 52, rfl⟩
abbrev main_call4_cst : Ref sig .tc := ⟨.hbm, 53, rfl⟩
abbrev main_call4_v14 : Ref sig .tc := ⟨.hbm, 54, rfl⟩
abbrev main_v5 : Ref sig .tc := ⟨.hbm, 55, rfl⟩

abbrev nD : Nat := 1
abbrev τ : Topo := Topo.v7x

variable {F : FTy → Type} [FloatOps F]
-- ==== Proof.Gather.lean ====
/- The gathering loop of the body: after it the scratch buffer's first 200 rows are the table's rows at the prefetched words. -/
module

public import proofs.«01_k».proof.Proof.Gen.KernelIdeal.Loops
public import Idealize.ShloMosaic.Lib.Tactic
public import Idealize.ShloMosaic.Lib.Ring
public import Idealize.ShloMosaic.Lib.WritesUnit
public import Idealize.ShloMosaic.Lib.ValueIdxCore
public import Idealize.ShloMosaic.Lib.Pipeline.Value

@[expose] public section

set_option maxRecDepth 16384

noncomputable section

namespace Cert.KernelIdeal.Gather

open Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The prefetched words as the body is handed them. -/
abbrev tab : Memref sig .tc .smem S128x200 .i32 := Memref.whole main_arg1
/-- The scratch rows. -/
abbrev scr : Memref sig .tc .vmem S256x1000 .f32 := Memref.whole cc0_scratch0

/-- The contents of the prefetched words on a core. -/
abbrev TabBuf (c : Dev nD) {S : Shape} {e : EltTy} (M : Memref sig .tc .smem S e) : Type := Buf (Elt F) (M.view.loc (c : Thread nD τ))
/-- The prefetched words held at half the full share: they are only read. -/
abbrev tabPt (c : Dev nD) {S : Shape} {e : EltTy} (M : Memref sig .tc .smem S e) (f : TabBuf (F := F) c M) : sProp 𝕄 :=
  M.view.loc (c : Thread nD τ) ↦{fullShare.right} f

/-- The word trip `k` reads at point `i`. -/
abbrev word (c : Dev nD) (i : grid0.Coords) (k : Fin k0_t1_loop.trips) (T : TabBuf (F := F) c tab) : BitVec 32 :=
  tab.view.readAt (Elt F) (Rect.unit (s := S128x200) (k0_off1 i k) S1x1.size (k0_off1_inb i k)).toLoadRect T (Shape.Idx.first (numel1_S1x1.symm ▸ Nat.one_pos))

/-- The row of a buffer a trip works on. -/
def rowOf (y : S256x1000.Idx) : Fin 200 := ⟨min (y 0).val 199, by omega⟩

/-- The gathered rows: row `r` below 200 is the table's row at word `r`. -/
def gathered (c : Dev nD) (i : grid0.Coords) (T : TabBuf (F := F) c tab) (x3 : FVec F S8192x1000 .f32) : FVec F S256x1000 .f32 :=
  fun y => x3 (ix2 ⟨(word c i ((rowOf y).cast (by decide)) T).toNat % 8192, Nat.mod_lt _ (by decide)⟩ (y 1))

/-- Trip `k` stores scratch row `k`. -/
theorem off3_eq : ∀ k : Fin k0_t1_loop.trips, k0_off3 k = ![k.val, 0] := by decide

instance (k : Fin k0_t1_loop.trips) : ClosedOff (k0_off3 k) := ⟨![k.val, 0], off3_eq k⟩

variable (c : Dev nD) (i : grid0.Coords) (arg2 : Memref sig .tc .vmem S1x1000x200 .f32) (harg2 : arg2.IsWhole)
  (arg3 : Memref sig .tc .vmem S8192x1000 .f32) (harg3 : arg3.IsWhole) (arg4 : Memref sig .tc .vmem S1x1000x200 .f32) (harg4 : arg4.IsWhole)
  (T : TabBuf (F := F) c tab) (f3 : Buf (Elt F) (arg3.view.loc (c : Thread nD τ)))

/-- Before trip `k`: the words and the table as they were, the scratch rows before `k` gathered. -/
def inv (k : Nat) (_ : Unit) : sProp 𝕄 :=
  iprop(tabPt c tab T ∗ (arg3.view.loc (c : Thread nD τ) ↦[arg3.view.set]{fullShare} f3)
    ∗ (∃ fd, (scr.view.loc (c : Thread nD τ) ↦{fullShare} fd) ∗ ⌜∀ y : S256x1000.Idx, (y 0).val < k → (y 0).val < 200 →
      scr.view.read (Elt F) fd y = gathered c i T (arg3.view.read (Elt F) f3) y⌝))

/-- Storing the table's row at word `k` into scratch row `k` keeps the rows before it and gathers row `k`. -/
theorem rows_step (k : Fin k0_t1_loop.trips) (hw : k0_chk1 (word c i k T)) (fd : Buf (Elt F) (scr.view.loc (c : Thread nD τ)))
    (hfd : ∀ y : S256x1000.Idx, (y 0).val < k.val → (y 0).val < 200 →
      scr.view.read (Elt F) fd y = gathered c i T (arg3.view.read (Elt F) f3) y) :
    ∀ y : S256x1000.Idx, (y 0).val < k.val + 1 → (y 0).val < 200 →
      scr.view.read (Elt F) (scr.view.writes (Elt F) fd [⟨Rect.unit (s := S256x1000) (k0_off3 k) S1x1000.size (k0_off3_inb k),
        k0_pay2 (arg3.view.readAt (Elt F) (Rect.unit (s := S8192x1000) (k0_off2 (word c i k T)) S1x1000.size
          (k0_off2_inb (word c i k T) hw)).toLoadRect f3)⟩]) y
        = gathered c i T (arg3.view.read (Elt F) f3) y := by
  intro y hy h200
  by_cases h : (y 0).val < k.val
  · rw [View.read_writes_cons_rows_of_not_mem (o := k.val) (W := 1) scr.view fd _ _ _ _ (off3_eq k) rfl (.inl h)]
    exact hfd y h h200
  · have hk : (y 0).val = k.val := by omega
    refine (View.read_writes_cons_rows_of_mem (d := ![256, 1000]) (off := k0_off3 k) (size := S1x1000.size) (o := k.val) scr.view fd
      (k0_off3_inb k) _ _ y (ix2 (n0 := 1) (n1 := 1000) 0 (y 1) : S1x1000.Idx) (off3_eq k) hk rfl).trans ?_
    unfold k0_pay2 gathered
    rw [shapeCast_self, View.readAt_apply]
    refine congrArg (arg3.view.read (Elt F) f3) ?_
    have hr : (rowOf y).cast (by decide) = k := Fin.ext (by show min (y 0).val 199 = k.val; omega)
    have e := congrArg (fun q => (word c i q T).toNat) hr
    have hlt : (word c i k T).toNat + 1 ≤ 8192 := hw 0
    funext a
    match a with
    | ⟨0, _⟩ => exact Fin.ext (by show (word c i k T).toNat + 0 * 1 = (word c i _ T).toNat % 8192; rw [e]; omega)
    | ⟨1, _⟩ => exact Fin.ext (by show 0 + 1 * (y 1).val = (y 1).val; omega)

/-- One trip of the loop. -/
theorem step (hW : ∀ k, k0_chk1 (word c i k T)) (k : Fin k0_t1_loop.trips) (acc : Unit) :
    inv c i arg3 T f3 k acc ⊢ wp frame (wpE (defs₀ (F := F)) Variants.none c none) Set.univ
      (k0_t1_body (F := F) i tab (Memref.isWhole_whole _) arg2 harg2 arg3 harg3 arg4 harg4 scr (Memref.isWhole_whole _) k acc)
      (inv c i arg3 T f3 (k.val + 1)) := by
  unfold inv k0_t1_body
  have hw := hW k
  iintro ⟨HT, H3, ⟨%fd, HD, %hfd⟩⟩
  sl_exec (disch := first | sl_exact hw)
  sl_step
  isplitl [HT]; · iexact HT
  isplitl [H3]; · iexact H3
  iexists _; isplitl [HD]; · iexact HD
  ipureintro
  exact rows_step c i arg3 T f3 k hw fd hfd

end Cert.KernelIdeal.Gather
-- ==== Proof.Stage.lean ====
/-
  ONE STAGE OF THE KERNEL'S SORTING NETWORK, AS VECTORS. The kernel cuts its 256 rows into an array [q, d, g, 2, j] of rows
  (d = 2: an ascending and a descending block; d = 1: one ascending block), takes the two rows of every pair at distance j by
  slices, compares them, and puts the results back by concatenations. Here those layouts are functions of q, g and j, so that each
  of the kernel's 108 stages is one of them at numerals.
-/
module

public import Idealize.ShloMosaic.PureOps
public import Idealize.ShloMosaic.Lib.ShapeFacts
public import Idealize.ShloMosaic.Lib.Pipeline.Value

@[expose] public section

namespace Cert.Bitonic

open Idealize.ShloMosaic

/-- The kernel's matrix: 256 rows of 1000 lanes. -/
abbrev Rows : Shape := ⟨2, ![256, 1000]⟩
/-- Four axes over the lanes' axis of 1000. -/
abbrev Sh4 (a b c : Nat) : Shape := ⟨4, ![a, b, c, 1000]⟩
/-- Five axes, the last the lanes'. -/
abbrev Sh5 (a b c d : Nat) : Shape := ⟨5, ![a, b, c, d, 1000]⟩
/-- Six axes, the last the lanes'. -/
abbrev Sh6 (a b c d e : Nat) : Shape := ⟨6, ![a, b, c, d, e, 1000]⟩

/-! ## The layouts' side conditions -/

theorem numel_sh4 (a b c : Nat) : (Sh4 a b c).numel = a * b * c * 1000 := Fin.prod_univ_four _
theorem numel_sh5 (a b c d : Nat) : (Sh5 a b c d).numel = a * b * c * d * 1000 := Fin.prod_univ_five _
theorem numel_sh6 (a b c d e : Nat) : (Sh6 a b c d e).numel = a * b * c * d * e * 1000 := Fin.prod_univ_six _
theorem numel_rows : Rows.numel = 256 * 1000 := Fin.prod_univ_two _

/-- 256 rows as [q, d, g, 2, j]. -/
theorem casts_in {q d g j : Nat} (h : q * d * g * 2 * j = 256) : Rows.ShapeCasts (Sh6 q d g 2 j) := by
  unfold Shape.ShapeCasts; rw [numel_sh6, numel_rows, h]

/-- [q, d, g, 2, j] as 256 rows. -/
theorem casts_out {q d g j : Nat} (h : q * d * g * 2 * j = 256) : (Sh6 q d g 2 j).ShapeCasts Rows := (casts_in h).symm

/-- A slice's unit axes dropped. -/
theorem casts_drop (q g j : Nat) : (Sh6 q 1 g 1 j).ShapeCasts (Sh4 q g j) := by
  unfold Shape.ShapeCasts; rw [numel_sh4, numel_sh6]; simp

/-- A unit axis for the two rows of a pair. -/
theorem casts_pair (q g j : Nat) : (Sh4 q g j).ShapeCasts (Sh5 q g 1 j) := by
  unfold Shape.ShapeCasts; rw [numel_sh4, numel_sh5]; simp

/-- A unit axis for the two blocks. -/
theorem casts_block (q g j : Nat) : (Sh5 q g 2 j).ShapeCasts (Sh6 q 1 g 2 j) := by
  unfold Shape.ShapeCasts; rw [numel_sh5, numel_sh6]; simp

/-- The slice of one block and one row of each pair lies within the array. -/
theorem slices_pick {q d g j a b : Nat} (ha : a < d) (hb : b < 2) : (Sh6 q d g 2 j).Slices ![0, a, 0, b, 0, 0] (Sh6 q 1 g 1 j) :=
  ⟨rfl, fun x => by fin_cases x <;> simp <;> omega⟩

/-- Two single rows make a pair. -/
theorem concats_pair (q g j : Nat) : Shape.Concatenates [Sh5 q g 1 j, Sh5 q g 1 j] (Sh5 q g 2 j) 2 :=
  ⟨by simp, by
    intro s hs
    have : s = Sh5 q g 1 j := by simpa using hs
    subst this
    exact ⟨rfl, fun b hb => by fin_cases b <;> simp at hb ⊢⟩, by simp⟩

/-- Two blocks make the whole. -/
theorem concats_block (q g j : Nat) : Shape.Concatenates [Sh6 q 1 g 2 j, Sh6 q 1 g 2 j] (Sh6 q 2 g 2 j) 1 :=
  ⟨by simp, by
    intro s hs
    have : s = Sh6 q 1 g 2 j := by simpa using hs
    subst this
    exact ⟨rfl, fun b hb => by fin_cases b <;> simp at hb ⊢⟩, by simp⟩

/-! ## The layouts -/

variable {α : Type}

/-- The 256 rows as [q, d, g, 2, j]. -/
abbrev cut (q d g j : Nat) (h : q * d * g * 2 * j = 256) (X : Rows.Idx → α) : (Sh6 q d g 2 j).Idx → α := shapeCast (Sh6 q d g 2 j) X (casts_in h)

/-- Row `b` of every pair of block `a`. -/
abbrev pick (q d g j a b : Nat) (ha : a < d) (hb : b < 2) (X : (Sh6 q d g 2 j).Idx → α) : (Sh4 q g j).Idx → α :=
  shapeCast (Sh4 q g j) (extractStridedSlice (Sh6 q 1 g 1 j) ![0, a, 0, b, 0, 0] X (slices_pick ha hb)) (casts_drop q g j)

/-- The pairs' first rows and second rows, together one block. -/
abbrev join (q g j : Nat) (L H : (Sh4 q g j).Idx → α) : (Sh6 q 1 g 2 j).Idx → α :=
  shapeCast (Sh6 q 1 g 2 j)
    (concatenate (Sh5 q g 2 j) 2 [⟨Sh5 q g 1 j, shapeCast (Sh5 q g 1 j) L (casts_pair q g j)⟩,
      ⟨Sh5 q g 1 j, shapeCast (Sh5 q g 1 j) H (casts_pair q g j)⟩] (concats_pair q g j))
    (casts_block q g j)

/-- The two blocks together as 256 rows. -/
abbrev glue (q g j : Nat) (h : q * 2 * g * 2 * j = 256) (A D : (Sh6 q 1 g 2 j).Idx → α) : Rows.Idx → α :=
  shapeCast Rows (concatenate (Sh6 q 2 g 2 j) 1 [⟨Sh6 q 1 g 2 j, A⟩, ⟨Sh6 q 1 g 2 j, D⟩] (concats_block q g j)) (casts_out h)

/-! ## The stages -/

/-- A stage of the sort of keys alone, an ascending and a descending block: `lo` and `hi` give the lesser and the greater. -/
abbrev both (lo hi : {s : Shape} → (s.Idx → α) → (s.Idx → α) → s.Idx → α) (q g j : Nat) (h : q * 2 * g * 2 * j = 256) (X : Rows.Idx → α) :
    Rows.Idx → α :=
  glue q g j h
    (join q g j (lo (pick q 2 g j 0 0 (by decide) (by decide) (cut q 2 g j h X)) (pick q 2 g j 0 1 (by decide) (by decide) (cut q 2 g j h X)))
      (hi (pick q 2 g j 0 0 (by decide) (by decide) (cut q 2 g j h X)) (pick q 2 g j 0 1 (by decide) (by decide) (cut q 2 g j h X))))
    (join q g j (hi (pick q 2 g j 1 0 (by decide) (by decide) (cut q 2 g j h X)) (pick q 2 g j 1 1 (by decide) (by decide) (cut q 2 g j h X)))
      (lo (pick q 2 g j 1 0 (by decide) (by decide) (cut q 2 g j h X)) (pick q 2 g j 1 1 (by decide) (by decide) (cut q 2 g j h X))))

/-- A stage of the sort of keys alone, one ascending block. -/
abbrev asc (lo hi : {s : Shape} → (s.Idx → α) → (s.Idx → α) → s.Idx → α) (g j : Nat) (h : 1 * 1 * g * 2 * j = 256) (X : Rows.Idx → α) :
    Rows.Idx → α :=
  shapeCast Rows
    (join 1 g j (lo (pick 1 1 g j 0 0 (by decide) (by decide) (cut 1 1 g j h X)) (pick 1 1 g j 0 1 (by decide) (by decide) (cut 1 1 g j h X)))
      (hi (pick 1 1 g j 0 0 (by decide) (by decide) (cut 1 1 g j h X)) (pick 1 1 g j 0 1 (by decide) (by decide) (cut 1 1 g j h X))))
    (casts_out h)

/-- The 36 stages of the sort of 256 rows. -/
abbrev sortRows (lo hi : {s : Shape} → (s.Idx → α) → (s.Idx → α) → s.Idx → α) (X : Rows.Idx → α) : Rows.Idx → α :=
  have X := both lo hi 64 1 1 rfl X
  have X := both lo hi 32 1 2 rfl X
  have X := both lo hi 32 2 1 rfl X
  have X := both lo hi 16 1 4 rfl X
  have X := both lo hi 16 2 2 rfl X
  have X := both lo hi 16 4 1 rfl X
  have X := both lo hi 8 1 8 rfl X
  have X := both lo hi 8 2 4 rfl X
  have X := both lo hi 8 4 2 rfl X
  have X := both lo hi 8 8 1 rfl X
  have X := both lo hi 4 1 16 rfl X
  have X := both lo hi 4 2 8 rfl X
  have X := both lo hi 4 4 4 rfl X
  have X := both lo hi 4 8 2 rfl X
  have X := both lo hi 4 16 1 rfl X
  have X := both lo hi 2 1 32 rfl X
  have X := both lo hi 2 2 16 rfl X
  have X := both lo hi 2 4 8 rfl X
  have X := both lo hi 2 8 4 rfl X
  have X := both lo hi 2 16 2 rfl X
  have X := both lo hi 2 32 1 rfl X
  have X := both lo hi 1 1 64 rfl X
  have X := both lo hi 1 2 32 rfl X
  have X := both lo hi 1 4 16 rfl X
  have X := both lo hi 1 8 8 rfl X
  have X := both lo hi 1 16 4 rfl X
  have X := both lo hi 1 32 2 rfl X
  have X := both lo hi 1 64 1 rfl X
  have X := asc lo hi 1 128 rfl X
  have X := asc lo hi 2 64 rfl X
  have X := asc lo hi 4 32 rfl X
  have X := asc lo hi 8 16 rfl X
  have X := asc lo hi 16 8 rfl X
  have X := asc lo hi 32 4 rfl X
  have X := asc lo hi 64 2 rfl X
  asc lo hi 128 1 rfl X

/-! ## The stages that carry a value with each key -/

/-- The values of a stage, an ascending and a descending block: each value goes where its key goes. -/
abbrev bothVal (q g j : Nat) (h : q * 2 * g * 2 * j = 256) (K : Rows.Idx → BitVec 32) (V : Rows.Idx → α) : Rows.Idx → α :=
  have k00 := pick q 2 g j 0 0 (by decide) (by decide) (cut q 2 g j h K)
  have k01 := pick q 2 g j 0 1 (by decide) (by decide) (cut q 2 g j h K)
  have v00 := pick q 2 g j 0 0 (by decide) (by decide) (cut q 2 g j h V)
  have v01 := pick q 2 g j 0 1 (by decide) (by decide) (cut q 2 g j h V)
  have k10 := pick q 2 g j 1 0 (by decide) (by decide) (cut q 2 g j h K)
  have k11 := pick q 2 g j 1 1 (by decide) (by decide) (cut q 2 g j h K)
  have v10 := pick q 2 g j 1 0 (by decide) (by decide) (cut q 2 g j h V)
  have v11 := pick q 2 g j 1 1 (by decide) (by decide) (cut q 2 g j h V)
  glue q g j h (join q g j (select (cmpi .slt k00 k01) v00 v01) (select (cmpi .slt k00 k01) v01 v00))
    (join q g j (select (cmpi .slt k11 k10) v10 v11) (select (cmpi .slt k11 k10) v11 v10))

/-- The values of a stage, one ascending block. -/
abbrev ascVal (g j : Nat) (h : 1 * 1 * g * 2 * j = 256) (K : Rows.Idx → BitVec 32) (V : Rows.Idx → α) : Rows.Idx → α :=
  have k0 := pick 1 1 g j 0 0 (by decide) (by decide) (cut 1 1 g j h K)
  have k1 := pick 1 1 g j 0 1 (by decide) (by decide) (cut 1 1 g j h K)
  have v0 := pick 1 1 g j 0 0 (by decide) (by decide) (cut 1 1 g j h V)
  have v1 := pick 1 1 g j 0 1 (by decide) (by decide) (cut 1 1 g j h V)
  shapeCast Rows (join 1 g j (select (cmpi .slt k0 k1) v0 v1) (select (cmpi .slt k0 k1) v1 v0)) (casts_out h)

/-- A stage on keys, two blocks. -/
abbrev bothKey (q g j : Nat) (h : q * 2 * g * 2 * j = 256) (K : Rows.Idx → BitVec 32) : Rows.Idx → BitVec 32 :=
  both (fun x y => minsi x y) (fun x y => maxsi x y) q g j h K

/-- A stage on keys, one block. -/
abbrev ascKey (g j : Nat) (h : 1 * 1 * g * 2 * j = 256) (K : Rows.Idx → BitVec 32) : Rows.Idx → BitVec 32 :=
  asc (fun x y => minsi x y) (fun x y => maxsi x y) g j h K

/-- The values after the 36 stages of the sort of keys with values. -/
abbrev sortVals (K : Rows.Idx → BitVec 32) (V : Rows.Idx → α) : Rows.Idx → α :=
  have V := bothVal 64 1 1 rfl K V
  have K := bothKey 64 1 1 rfl K
  have V := bothVal 32 1 2 rfl K V
  have K := bothKey 32 1 2 rfl K
  have V := bothVal 32 2 1 rfl K V
  have K := bothKey 32 2 1 rfl K
  have V := bothVal 16 1 4 rfl K V
  have K := bothKey 16 1 4 rfl K
  have V := bothVal 16 2 2 rfl K V
  have K := bothKey 16 2 2 rfl K
  have V := bothVal 16 4 1 rfl K V
  have K := bothKey 16 4 1 rfl K
  have V := bothVal 8 1 8 rfl K V
  have K := bothKey 8 1 8 rfl K
  have V := bothVal 8 2 4 rfl K V
  have K := bothKey 8 2 4 rfl K
  have V := bothVal 8 4 2 rfl K V
  have K := bothKey 8 4 2 rfl K
  have V := bothVal 8 8 1 rfl K V
  have K := bothKey 8 8 1 rfl K
  have V := bothVal 4 1 16 rfl K V
  have K := bothKey 4 1 16 rfl K
  have V := bothVal 4 2 8 rfl K V
  have K := bothKey 4 2 8 rfl K
  have V := bothVal 4 4 4 rfl K V
  have K := bothKey 4 4 4 rfl K
  have V := bothVal 4 8 2 rfl K V
  have K := bothKey 4 8 2 rfl K
  have V := bothVal 4 16 1 rfl K V
  have K := bothKey 4 16 1 rfl K
  have V := bothVal 2 1 32 rfl K V
  have K := bothKey 2 1 32 rfl K
  have V := bothVal 2 2 16 rfl K V
  have K := bothKey 2 2 16 rfl K
  have V := bothVal 2 4 8 rfl K V
  have K := bothKey 2 4 8 rfl K
  have V := bothVal 2 8 4 rfl K V
  have K := bothKey 2 8 4 rfl K
  have V := bothVal 2 16 2 rfl K V
  have K := bothKey 2 16 2 rfl K
  have V := bothVal 2 32 1 rfl K V
  have K := bothKey 2 32 1 rfl K
  have V := bothVal 1 1 64 rfl K V
  have K := bothKey 1 1 64 rfl K
  have V := bothVal 1 2 32 rfl K V
  have K := bothKey 1 2 32 rfl K
  have V := bothVal 1 4 16 rfl K V
  have K := bothKey 1 4 16 rfl K
  have V := bothVal 1 8 8 rfl K V
  have K := bothKey 1 8 8 rfl K
  have V := bothVal 1 16 4 rfl K V
  have K := bothKey 1 16 4 rfl K
  have V := bothVal 1 32 2 rfl K V
  have K := bothKey 1 32 2 rfl K
  have V := bothVal 1 64 1 rfl K V
  have K := bothKey 1 64 1 rfl K
  have V := ascVal 1 128 rfl K V
  have K := ascKey 1 128 rfl K
  have V := ascVal 2 64 rfl K V
  have K := ascKey 2 64 rfl K
  have V := ascVal 4 32 rfl K V
  have K := ascKey 4 32 rfl K
  have V := ascVal 8 16 rfl K V
  have K := ascKey 8 16 rfl K
  have V := ascVal 16 8 rfl K V
  have K := ascKey 16 8 rfl K
  have V := ascVal 32 4 rfl K V
  have K := ascKey 32 4 rfl K
  have V := ascVal 64 2 rfl K V
  have K := ascKey 64 2 rfl K
  ascVal 128 1 rfl K V

end Cert.Bitonic
-- ==== Proof.Body.lean ====
/-
  WHAT THE KERNEL'S BODY WRITES, AS STAGES. The printed body is a loop that gathers rows into the scratch buffer, two loads, a long
  chain of vector operations and one store. Here the chain is named once as a composition of the stages of Stage.lean, and the
  printed body is shown to be the loop, the loads and a store of that composition.
-/
module

public import proofs.«01_k».proof.Proof.Stage
public import proofs.«01_k».proof.Proof.Gen.KernelIdeal.Skeleton

@[expose] public section

noncomputable section

namespace Cert.KernelIdeal.Body

open Idealize.ShloMosaic Idealize.SL.Sem Cert.KernelIdeal.Gen Cert.Bitonic

variable {F : FTy → Type} [FloatOps F]

/-- The samples of one batch entry, transposed to rows of samples, padded to 256 rows with plus infinity. -/
def padX (x : FVec F S1x1000x200 .f32) : FVec F S256x1000 .f32 :=
  concatenate S256x1000 0 [⟨S200x1000, transpose S200x1000 [1, 0] (shapeCast S1000x200 x shapeCasts_S1x1000x200_S1000x200)
      transposes_S1000x200_p1_0_S200x1000⟩,
    ⟨S56x1000, broadcast S56x1000 (Scalar.ofBits .f32 0x7F800000#32 : F .f32)⟩] concatenates_S200x1000_S56x1000_S256x1000_d0

/-- The number of each row. -/
def rowNo : IVec S256x1000 32 := iota .tc S256x1000 32 [0] iota_S256x1000_d0_w32

/-- The integer keys: the gathered row times 2 ^ 23, shifted by 8 bits, plus the row's number; past row 200 the greatest integer. -/
def keys (y : FVec F S256x1000 .f32) : IVec S256x1000 32 :=
  select (cmpi .slt rowNo (broadcast S256x1000 200#32))
    (addi (shli (fptosi 32 (mulf y (broadcast S256x1000 (Scalar.ofBits .f32 0x4B000000#32 : F .f32)))) (broadcast S256x1000 8#32)) rowNo)
    (broadcast S256x1000 2147483647#32)

/-- The sorted samples. -/
def sortedX (x : FVec F S1x1000x200 .f32) : FVec F S256x1000 .f32 :=
  sortRows (fun a b => minimumf a b) (fun a b => maximumf a b) (padX x)

/-- The row numbers in the order of the keys. -/
def order (y : FVec F S256x1000 .f32) : IVec S256x1000 32 :=
  andi (sortRows (fun a b => minsi a b) (fun a b => maxsi a b) (keys y)) (broadcast S256x1000 255#32)

/-- The block the body writes: the sorted samples taken back along the order, cut to 200 rows and transposed. -/
def block (x : FVec F S1x1000x200 .f32) (y : FVec F S256x1000 .f32) : FVec F S1000x200 .f32 :=
  transpose S1000x200 [1, 0]
    (extractStridedSlice S200x1000 ![0, 0] (sortVals (order y) (sortedX x)) slices_S256x1000_o0_0_S200x1000)
    transposes_S200x1000_p1_0_S1000x200

/-- The printed body: the gathering loop, the two loads, and the store of the block. -/
theorem body_eq (i : grid0.Coords) (arg1 : Memref sig .tc .smem S128x200 .i32) (harg1 : arg1.IsWhole) (arg2 : Memref sig .tc .vmem S1x1000x200 .f32) (harg2 : arg2.IsWhole) (arg3 : Memref sig .tc .vmem S8192x1000 .f32) (harg3 : arg3.IsWhole) (arg4 : Memref sig .tc .vmem S1x1000x200 .f32) (harg4 : arg4.IsWhole) (arg5 : Memref sig .tc .vmem S256x1000 .f32) (harg5 : arg5.IsWhole) :
    cc0__body (F := F) i arg1 harg1 arg2 harg2 arg3 harg3 arg4 harg4 arg5 harg5
      = (do
        Scf.Loop.for k0_t1_loop k0_t1_ok ⟨⟩ (k0_t1_body i arg1 harg1 arg2 harg2 arg3 harg3 arg4 harg4 arg5 harg5)
        let x : Vec F S1x1000x200 .f32 ← Prog.lift (.load arg2 (Rect.unit (s := S1x1000x200) ![0, 0, 0] S1x1000x200.size inb_S1x1000x200_S1x1000x200_0_0_0).toLoadRect (View.loadsAt_vmem h_S1x1000x200))
        let y : Vec F S256x1000 .f32 ← Prog.lift (.load arg5 (Rect.unit (s := S256x1000) ![0, 0] S256x1000.size inb_S256x1000_S256x1000_0_0).toLoadRect (View.loadsAt_vmem h_S256x1000))
        let _ : Vec F S1x1000x200 .f32 ← Prog.lift (.load arg4 (Rect.unit (s := S1x1000x200) ![0, 0, 0] S1x1000x200.size inb_S1x1000x200_S1x1000x200_0_0_0).toLoadRect (View.loadsAt_vmem h_S1x1000x200))
        Prog.lift (.store arg4 (Rect.unit (s := S1x1000x200) ![0, 0, 0] S1x1000x200.size inb_S1x1000x200_S1x1000x200_0_0_0) (k0_pay1 (block x y)) Finset.univ (View.stores_vmem_bits_univ h_S1x1000x200 rfl) (.inl rfl))
        pure ⟨⟩) := by
  rw [cc0__body_eq_skeleton]
  unfold cc0__body_skel
  rw [k0_part1_eq_skeleton]
  unfold k0_part1_skel
  rw [Prog.bind_assoc]
  rfl

end Cert.KernelIdeal.Body
-- ==== Proof.Run.lean ====
/- The body's triple on whole staging memrefs: the block it writes is `Body.block` of the samples' block and the gathered rows. -/
module

public import proofs.«01_k».proof.Proof.Gather
public import proofs.«01_k».proof.Proof.Body
public import Idealize.ShloMosaic.Lib.Pipeline.FrameBody
public import Idealize.ShloMosaic.Lib.VecWindow

@[expose] public section

set_option maxRecDepth 16384

noncomputable section

namespace Cert.KernelIdeal.Gather

open Cert.KernelIdeal.Gen Cert.KernelIdeal.Body Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row's number, as a word. -/
theorem rowNo_apply (p : S256x1000.Idx) : rowNo p = BitVec.ofNat 32 (p 0).val := by
  show BitVec.ofNat 32 (0 * 256 + (p 0).val) = _
  rw [Nat.zero_mul, Nat.zero_add]

/-- Which rows hold gathered samples. -/
theorem rowNo_slt (p : S256x1000.Idx) : BitVec.slt (rowNo p) 200#32 = decide ((p 0).val < 200) := by
  rw [rowNo_apply]
  have h : (p 0).val < 256 := (p 0).isLt
  generalize (p 0).val = n at h
  revert n; decide

/-- The keys are read from the first 200 rows only. -/
theorem keys_congr {y y' : FVec F S256x1000 .f32} (h : ∀ p : S256x1000.Idx, (p 0).val < 200 → y p = y' p) : keys y = keys y' := by
  funext p
  by_cases hp : (p 0).val < 200
  · show (if _ then _ else _) = (if _ then _ else _)
    simp only [addi, shli, fptosi, mulf, h p hp]
  · have e : cmpi .slt rowNo (broadcast S256x1000 200#32) p = 0#1 := by
      show BitVec.ofBool (BitVec.slt (rowNo p) 200#32) = 0#1
      rw [rowNo_slt, decide_eq_false hp]; rfl
    show (if cmpi .slt rowNo (broadcast S256x1000 200#32) p = 1 then _ else _) = (if cmpi .slt rowNo (broadcast S256x1000 200#32) p = 1 then _ else _)
    rw [e]
    rfl

/-- The written block is read from the first 200 gathered rows only. -/
theorem block_congr (x : FVec F S1x1000x200 .f32) {y y' : FVec F S256x1000 .f32}
    (h : ∀ p : S256x1000.Idx, (p 0).val < 200 → y p = y' p) : block x y = block x y' := by
  unfold block order
  rw [keys_congr h]

attribute [local irreducible] block

variable (c : Dev nD) (i : grid0.Coords) (arg2 : Memref sig .tc .vmem S1x1000x200 .f32) (harg2 : arg2.IsWhole)
  (arg3 : Memref sig .tc .vmem S8192x1000 .f32) (harg3 : arg3.IsWhole) (arg4 : Memref sig .tc .vmem S1x1000x200 .f32) (harg4 : arg4.IsWhole)
  (T : TabBuf (F := F) c tab)

set_option maxHeartbeats 1000000 in
/-- The body's triple. -/
theorem run (x2 : Vec F S1x1000x200 .f32) (x3 : Vec F S8192x1000 .f32) (hW : ∀ k, k0_chk1 (word c i k T)) (K : PUnit → sProp 𝕄) :
    iprop(owns (c : Thread nD τ) arg2 fullShare x2 ∗ owns (c : Thread nD τ) arg3 fullShare x3 ∗ (∃ d, owns (c : Thread nD τ) arg4 fullShare d)
        ∗ (∃ d, (scr.view.loc (c : Thread nD τ) ↦{fullShare} d)) ∗ tabPt c tab T
        ∗ (iprop(owns (c : Thread nD τ) arg2 fullShare x2 ∗ owns (c : Thread nD τ) arg3 fullShare x3
            ∗ owns (c : Thread nD τ) arg4 fullShare (k0_pay1 (block x2 (gathered c i T x3)))
            ∗ (∃ d, (scr.view.loc (c : Thread nD τ) ↦{fullShare} d)) ∗ tabPt c tab T) -∗ K ⟨⟩))
      ⊢ wp frame (wpE (defs₀ (F := F)) Variants.none c none) Set.univ
          (cc0__body i tab (Memref.isWhole_whole _) arg2 harg2 arg3 harg3 arg4 harg4 scr (Memref.isWhole_whole _)) K := by
  rw [body_eq]
  unfold owns
  iintro ⟨⟨%f2, %hf2, H2⟩, ⟨%f3, %hf3, H3⟩, ⟨%d4, %f4, -, H4⟩, ⟨%d5, H5⟩, HT, Hk⟩
  obtain rfl := harg2.eq_unread hf2
  let L : LoopInvTy_k0_t1 (F := F) Unit ℕ (UR sig nD τ) ℕ Variants.none c none Set.univ i tab (Memref.isWhole_whole _) arg2 harg2 arg3 harg3
    arg4 harg4 scr (Memref.isWhole_whole _) := ⟨inv c i arg3 T f3, step c i arg2 harg2 arg3 harg3 arg4 harg4 T f3 hW⟩
  sl_exec
  sl_step
  have hz3 : (![0, 0, 0] : Fin 3 → Nat) = fun _ => 0 := by funext a; fin_cases a <;> rfl
  have hz2 : (![0, 0] : Fin 2 → Nat) = fun _ => 0 := by funext a; fin_cases a <;> rfl
  iapply Hk
  isplitl [H2]
  · iexists _; isplitr; · ipureintro; exact harg2.read_unread _
    iexact H2
  isplitl [H3]
  · iexists _; isplitr; · ipureintro; exact hf3
    iexact H3
  isplitl [H4]
  · iexists _; isplitr
    rotate_left
    · iexact H4
    · ipureintro
      rw [View.read_writes_full, View.readAt_eq_ld, View.readAt_eq_ld, harg2.read_unread, View.ld_unit_zero (S := S1x1000x200) hz3,
        View.ld_unit_zero (S := S256x1000) hz2]
      exact congrArg k0_pay1 (block_congr x2 fun p hp => (hL3 p hp hp).trans (by rw [hf3]))
  isplitl [H5]
  · iexists _; iexact H5
  iexact HT

end Cert.KernelIdeal.Gather
-- ==== Proof.Frame.lean ====
/- The launch of the pipelined call: its proof data, the body's obligation at every grid point, and the run. -/
module

public import proofs.«01_k».proof.Proof.Run
public import proofs.«01_k».proof.Proof.Gen.KernelIdeal.Launch
public import Idealize.ShloMosaic.Lib.Claim

@[expose] public section

set_option maxRecDepth 16384

noncomputable section

namespace Cert.KernelIdeal.Frame

open Cert.KernelIdeal.Gen Cert.KernelIdeal.Body Cert.KernelIdeal.Gather
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the call is entered: as launched. -/
abbrev V (c : Dev nD) (b : Ref sig .tc) : Buf (Elt F) ((c : Thread nD τ).loc b) := m ((c : Thread nD τ).loc b)

/-- The program up to the call: the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The prefetched words, off the launch memory. -/
def tbl : pre0.Contents (Elt F) := fun j => V m (0 : Dev nD) (pre0.ref j)

/-- On every device the prefetched words are those: there is one device. -/
theorem V_pre (c : Dev nD) (j : Fin 1) : V m c (pre0.ref j) = tbl m j := by
  obtain rfl : c = 0 := Subsingleton.elim _ _; rfl

/-- The words as admissible contents, and the pipeline at them. -/
abbrev adm : (pcfg0 (F := F)).Adm := ⟨tbl m, trivial⟩
abbrev cfgM : Pipeline.Cfg sig Λ₀ := cfg0 (adm m)

/-- The words' half that the call hands the body. -/
theorem PhiT_eq (c : Dev nD) : (Pipeline.ΦT pre0 (tbl m) c : sProp 𝕄) = iprop(tabPt c tab (tbl m 0)) := by
  unfold Pipeline.ΦT Pipeline.prefHeld
  rw [show (Finset.univ : Finset (Fin 1)) = {(0 : Fin 1)} from by decide, bigSep_singleton]
  rfl

/-- Window `w`'s block at point `t`, read off its array. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The words name rows of the table, at every trip of every point. -/
def Hyps : Prop := ∀ (c : Dev nD) (i : grid0.Coords) (k : Fin k0_t1_loop.trips), k0_chk1 (word (F := F) c i k (tbl m 0))

/-- What the body leaves in the result's staging buffer at point `t`. -/
def outBlk (c : Dev nD) (t : Fin (cfgM m).N) : Vec F S1x1000x200 .f32 :=
  k0_pay1 (block (iblk m c 0 t) (gathered c (grid0.coords t) (tbl m 0) (iblk m c 1 t)))

/-- The proof data of the call. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outBlk m c t
  Φ _ := iprop(Pipeline.ΦA spec0 c ∗ Pipeline.ΦT pre0 (tbl m) c)
  q _ := fullShare
  owed _ := 0

/-- The arrays are the contents at entry. -/
theorem A_eq (c : Dev nD) (w : Fin (cfgM m).W) : (dats m 0 c).A w = V m c (Pipeline.arrRef spec0 w) := by
  dsimp only [dats]

/-- What the body leaves, window by window. -/
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = outBlk m c t := by dsimp only [dats]; try rfl

/-- The two inputs' staging buffers hold their blocks at every point. -/
theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Each window's current staging memref. -/
abbrev ms0_0 (t : Fin (cfgM m).N) : Memref sig .tc .vmem S1x1000x200 .f32 := spec0_0.stage ((cfgM m).slots t 0)
abbrev ms0_1 (t : Fin (cfgM m).N) : Memref sig .tc .vmem S8192x1000 .f32 := spec0_1.stage ((cfgM m).slots t 1)
abbrev ms0_2 (t : Fin (cfgM m).N) : Memref sig .tc .vmem S1x1000x200 .f32 := spec0_2.stage ((cfgM m).slots t 2)

/-- The body at point `t`, as the pipeline calls it. -/
abbrev bodyAt (t : Fin (cfgM m).N) : Prog (TpuEff nD τ sig (Elt F) Λ₀ .tc) PUnit :=
  cc0__body (grid0.coords t) tab (Memref.isWhole_whole _) (ms0_0 m t) (hstage0_0 (((cfgM m).slots t 0).cast nbuf0_0))
    (ms0_1 m t) (hstage0_1 (((cfgM m).slots t 1).cast nbuf0_1)) (ms0_2 m t) (hstage0_2 (((cfgM m).slots t 2).cast nbuf0_2)) scr (Memref.isWhole_whole _)

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t))

attribute [local irreducible] block gathered

/-- The body at any point: the scratch rows are taken out of the scoped rest and given back. -/
theorem sound_body (hH : Hyps m) (c : Dev nD) (t : Fin (cfgM m).N) :
    bodyPre m c t ⊢ wp frame (wpE (defs₀ (F := F)) Variants.none c none) Set.univ (bodyAt m t) (fun _ => bodyPost m c t) := by
  unfold bodyPre bodyPost
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = iprop(Pipeline.ΦA spec0 c ∗ Pipeline.ΦT pre0 (tbl m) c) from rfl, PhiT_eq]
  unfold Pipeline.ΦA
  rw [scopedRest0_eq]
  iintro ⟨⟨⟨⟨%f5, H5⟩, Hg⟩, HT⟩, Ho, ⟨%d0, H0⟩, ⟨%d1, H1⟩, ⟨%d2, H2⟩⟩
  iapply (run c (grid0.coords t) (ms0_0 m t) _ (ms0_1 m t) _ (ms0_2 m t) _ (tbl m 0) (iblk m c 0 t) (iblk m c 1 t) (fun k => hH c _ k) _)
  isplitl [H0]; · iexact H0
  isplitl [H1]; · iexact H1
  isplitl [H2]; · iexists _; iexact H2
  isplitl [H5]; · iexists _; iexact H5
  isplitl [HT]; · iexact HT
  iintro ⟨H0, H1, H2, H5, HT⟩
  isplitl [H5 Hg HT]
  · isplitl [H5 Hg]
    · isplitl [H5]
      · iexact H5
      iexact Hg
    iexact HT
  isplitl [Ho]; · iexact Ho
  isplitl [H0]; · iexact H0
  isplitl [H1]; · iexact H1
  iexact H2

/-- The body table's row at point `t`'s slots is `bodyAt`. -/
theorem defs₀_row (t : Fin (cfgM m).N) :
    defs₀ (F := F) .tc (cfgM m).body ((cfgM m).bodyArgs t ((cfgM m).slots t)) = bodyAt m t := by
  unfold defs₀; rw [Defs.onTc_tc]

/-- The body's obligation, at every point. -/
theorem body_obligation (hH : Hyps m) (c : Dev nD) : BodyObligation (dats (F := F) m 0 c) (defs₀ (F := F)) Variants.none () Set.univ := fun t => by
  rw [bigSep_W0, bigSep_W0, defs₀_row m]
  exact triple_restated (sound_body m hH c t) rfl .rfl fun _ => .rfl

set_option backward.isDefEq.respectTransparency.types false in
/-- The launch: every execution terminates, the arrays end as the proof data say, every semaphore counter at zero. -/
theorem run_main (hH : Hyps m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m hH c).loose) (hshare := fun c => (dats m 0 c).share_full fun _ => rfl)
    (howed := fun _ _ => rfl) (V := V m) (hmain := hmain m Variants.none) (hA := A_eq m) (hpf := V_pre m) (hΦ := fun _ _ => rfl)

/-- The run at the program's arrays: the arguments unchanged, the result what the write-backs leave, the counters at zero. -/
theorem run_arrays (hH : Hyps m) : θ_run defs (onTc (τ := τ) (main (F := F))) ⟨m, fun _ => 0, ρ⟩ (fun r => (∀ c : Dev nD,
      r.2.mem ((c.tc : Thread nD τ).loc main_v0) = (dats m 0 c).arrAt 2 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2,
      ((h.1 c).1 0).trans (((dats m 0 c).arrAt_in 0 rfl _).trans (A_eq m c 0)),
      (h.1 c).2 main_arg1 (by decide : main_arg1 ∈ Pipeline.restRefs sig spec0),
      ((h.1 c).1 1).trans (((dats m 0 c).arrAt_in 1 rfl _).trans (A_eq m c 1))⟩, h.2⟩) (run_main m ρ hH)

end Cert.KernelIdeal.Frame
-- ==== Proof.KernelValue.lean ====
/- What the kernel's write-backs leave in the result, and the blocks and words it read, off the launch memory. -/
module

public import proofs.«01_k».proof.Proof.Frame
public import Idealize.ShloMosaic.Lib.Pipeline.Value
public import Idealize.ShloMosaic.Lib.ValueLayout

@[expose] public section

set_option maxRecDepth 16384

noncomputable section

namespace Cert.KernelIdeal.Frame

open Cert.KernelIdeal.Gen Cert.KernelIdeal.Body Cert.KernelIdeal.Gather
open Idealize.ShloMosaic Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The grid is one axis: a point is its coordinate. -/
theorem coords_val (t : Fin grid0.N) : ((grid0.coords t) 0).val = t.val := by
  revert t
  decide

/-- Each point's block of the samples and of the result is the batch of its number. -/
theorem map_0 (t : Fin grid0.N) : cc0_transform_0 (grid0.coords t) = ![t.val, 0, 0] := by
  have h : t.val < 128 := t.isLt
  show ![(BitVec.ofNat 32 ((grid0.coords t) 0).val).toNat, 0, 0] = _
  rw [coords_val, BitVec.toNat_ofNat, Nat.mod_eq_of_lt (by omega)]
theorem map_2 (t : Fin grid0.N) : cc0_transform_2 (grid0.coords t) = ![t.val, 0, 0] := map_0 t

/-- The samples' block at a point is that batch. -/
theorem iblk_0 (c : Dev nD) (t : Fin grid0.N) (n : Fin 1000) (s : Fin 200) :
    iblk m c 0 t (ix3 (0 : Fin 1) n s) = m ((c : Thread nD τ).loc main_arg0) (ix3 (t : Fin 128) n s) := by
  have e := map_0 t
  refine congrArg (m ((c : Thread nD τ).loc main_arg0)) (funext fun a => Fin.ext ?_)
  match a with
  | ⟨0, _⟩ => show cc0_transform_0 (grid0.coords t) 0 * 1 + 1 * 0 = t.val; rw [e]; show t.val * 1 + 1 * 0 = t.val; omega
  | ⟨1, _⟩ => show cc0_transform_0 (grid0.coords t) 1 * 1000 + 1 * n.val = n.val; rw [e]; show 0 * 1000 + 1 * n.val = n.val; omega
  | ⟨2, _⟩ => show cc0_transform_0 (grid0.coords t) 2 * 200 + 1 * s.val = s.val; rw [e]; show 0 * 200 + 1 * s.val = s.val; omega

/-- The table's block is the table. -/
theorem iblk_1 (c : Dev nD) (t : Fin grid0.N) (r : Fin 8192) (n : Fin 1000) :
    iblk m c 1 t (ix2 r n) = m ((c : Thread nD τ).loc main_arg2) (ix2 r n) := by
  refine congrArg (m ((c : Thread nD τ).loc main_arg2)) (funext fun a => Fin.ext ?_)
  match a with
  | ⟨0, _⟩ => show 0 * 8192 + 1 * r.val = r.val; omega
  | ⟨1, _⟩ => show 0 * 1000 + 1 * n.val = n.val; omega

/-- Where a trip reads its word. -/
theorem off1_eq (t : Fin grid0.N) (k : Fin k0_t1_loop.trips) : k0_off1 (grid0.coords t) k = ![t.val, k.val] := by
  have h : t.val < 128 := t.isLt
  have hk : ∀ k : Fin k0_t1_loop.trips, (Scf.iv 0#32 1#32 k).toNat = k.val := by decide
  show ![(BitVec.ofNat 32 ((grid0.coords t) 0).val).toNat, (Scf.iv 0#32 1#32 k).toNat] = _
  rw [coords_val, hk, BitVec.toNat_ofNat, Nat.mod_eq_of_lt (by omega)]

/-- The word a trip reads is the batch's index. -/
theorem word_eq (t : Fin grid0.N) (k : Fin k0_t1_loop.trips) (s : Fin 200) (hs : s.val = k.val) :
    word (F := F) (0 : Dev nD) (grid0.coords t) k (tbl m 0) = m (((0 : Dev nD) : Thread nD τ).loc main_arg1) (ix2 (t : Fin 128) s) := by
  have e := off1_eq t k
  refine congrArg (m (((0 : Dev nD) : Thread nD τ).loc main_arg1)) (funext fun a => Fin.ext ?_)
  match a with
  | ⟨0, _⟩ => show k0_off1 (grid0.coords t) k 0 + 1 * 0 = t.val; rw [e]; rfl
  | ⟨1, _⟩ => show k0_off1 (grid0.coords t) k 1 + 1 * 0 = s.val; rw [e, hs]; rfl

/-- The gathered rows, off the launch memory. -/
theorem gathered_apply (hT : ∀ w : S128x200.Idx, (m (((0 : Dev nD) : Thread nD τ).loc main_arg1) w).toNat < 8192)
    (t : Fin grid0.N) (s : Fin 200) (n : Fin 1000) :
    gathered (0 : Dev nD) (grid0.coords t) (tbl m 0) (iblk m 0 1 t) (ix2 (⟨s.val, lt_trans s.isLt (by decide)⟩ : Fin 256) n)
      = m (((0 : Dev nD) : Thread nD τ).loc main_arg2)
          (ix2 (⟨(m (((0 : Dev nD) : Thread nD τ).loc main_arg1) (ix2 (t : Fin 128) s)).toNat, hT _⟩ : Fin 8192) n) := by
  have hw := word_eq m t ((rowOf (ix2 (⟨s.val, lt_trans s.isLt (by decide)⟩ : Fin 256) n)).cast (by decide)) s
    (by show s.val = min s.val 199; omega)
  unfold gathered
  refine (iblk_1 m 0 t _ n).trans ?_
  refine congrArg (fun r : Fin 8192 => m (((0 : Dev nD) : Thread nD τ).loc main_arg2) (ix2 r n)) (Fin.ext ?_)
  refine (congrArg (fun v : BitVec 32 => v.toNat % 8192) hw).trans (Nat.mod_eq_of_lt (hT _))

/-- The point of a batch. -/
abbrev pt (b : Fin 128) : Fin (cfgM m).N := ⟨b.val, (b.isLt : b.val < 128)⟩

/-- The result, batch by batch. -/
def result (c : Dev nD) : Buf (Elt F) ((c : Thread nD τ).loc main_v0) :=
  fun i : S128x1000x200.Idx => block (iblk m c 0 (pt m (i 0))) (gathered c (grid0.coords (pt m (i 0))) (tbl m 0) (iblk m c 1 (pt m (i 0)))) (ix2 (i 1 : Fin 1000) (i 2 : Fin 200))

attribute [local irreducible] block gathered

/-- What a point writes back is its batch of the result. -/
theorem flushed_eq (c : Dev nD) (t : Fin (cfgM m).N) :
    (dats m 0 c).flushed 2 t = (((cfgM m).win 2).blk t).view.read (Elt F) (result m c) := by
  have e := map_2 t
  show ((cfgM m).win 2).cut (grid0.coords t) ((dats m 0 c).after 2 t) = _
  rw [after0_2]
  refine funext fun (j : S1x1000x200.Idx) => ?_
  obtain ⟨u, n, s, rfl⟩ : ∃ (u : Fin 1) (n : Fin 1000) (s : Fin 200), j = ix3 u n s := ⟨j 0, j 1, j 2, eq_ix3 j⟩
  have hj : (((cfgM m).win 2).blk t).view.read (Elt F) (result m c) (ix3 u n s) = result m c (ix3 (t : Fin 128) n s) := by
    refine congrArg (result m c) (funext fun a => Fin.ext ?_)
    have hu : u.val = 0 := by omega
    match a with
    | ⟨0, _⟩ => show cc0_transform_2 (grid0.coords t) 0 * 1 + 1 * u.val = t.val; rw [e, hu]; show t.val * 1 + 1 * 0 = t.val; omega
    | ⟨1, _⟩ => show cc0_transform_2 (grid0.coords t) 1 * 1000 + 1 * n.val = n.val; rw [e]; show 0 * 1000 + 1 * n.val = n.val; omega
    | ⟨2, _⟩ => show cc0_transform_2 (grid0.coords t) 2 * 200 + 1 * s.val = s.val; rw [e]; show 0 * 200 + 1 * s.val = s.val; omega
  rw [hj]
  show outBlk m c t (ix3 u n s) = _
  unfold outBlk k0_pay1
  refine (shapeCast_ab_1ab_apply _ _ u n s).trans ?_
  unfold result
  rfl

/-- Every point writes back. -/
theorem flush_2 (t : Fin (cfgM m).N) : ((cfgM m).win 2).flush t = true :=
  (fun t => (Pipeline.Window.flushOf_reads cc0_transform_2 reads0_2 hreads0_2 0 (by decide) (by decide)
    (Pipeline.Window.sep_of_coord cc0_transform_2 0 0 (fun _ => rfl) (by decide)) (P := 1) (m := 0) (by decide) rfl t).mpr (Nat.mod_one _)
    : ∀ t : Fin grid0.N, Pipeline.Window.flushOf grid0 true cc0_transform_2 t = true) t

/-- The batches are the whole array. -/
theorem cover (i : S128x1000x200.Idx) :
    ∃ t : Fin (cfgM m).N, ((cfgM m).win 2).flush t = true ∧ i ∈ (((cfgM m).win 2).blk t).view.set := by
  have h0 : (i 0).val < 128 := (i 0).isLt
  have h1 : (i 1).val < 1000 := (i 1).isLt
  have h2 : (i 2).val < 200 := (i 2).isLt
  obtain ⟨t, ht⟩ : ∃ t : Fin (cfgM m).N, t.val = (i 0).val := ⟨pt m (i 0), rfl⟩
  have e := map_2 t
  rw [ht] at e
  refine ⟨t, flush_2 m _, ?_⟩
  refine (congrArg (i ∈ ·) (View.set_slice_whole main_v0 (((cfgM m).win 2).rect t))).mpr ?_
  refine Rect.mem_set_unit.mpr ?_
  intro a
  match a with
  | ⟨0, _⟩ =>
    show cc0_transform_2 (grid0.coords t) 0 * 1 ≤ (i 0).val
      ∧ (i 0).val < cc0_transform_2 (grid0.coords t) 0 * 1 + 1
    rw [e]; show (i 0).val * 1 ≤ (i 0).val ∧ (i 0).val < (i 0).val * 1 + 1; omega
  | ⟨1, _⟩ =>
    show cc0_transform_2 (grid0.coords t) 1 * 1000 ≤ (i 1).val
      ∧ (i 1).val < cc0_transform_2 (grid0.coords t) 1 * 1000 + 1000
    rw [e]; show 0 * 1000 ≤ (i 1).val ∧ (i 1).val < 0 * 1000 + 1000; omega
  | ⟨2, _⟩ =>
    show cc0_transform_2 (grid0.coords t) 2 * 200 ≤ (i 2).val
      ∧ (i 2).val < cc0_transform_2 (grid0.coords t) 2 * 200 + 200
    rw [e]; show 0 * 200 ≤ (i 2).val ∧ (i 2).val < 0 * 200 + 200; omega

/-- The result array at the end. -/
theorem final_eq (c : Dev nD) : (dats m 0 c).arrAt 2 (cfgM m).N = result m c :=
  (dats m 0 c).arrAt_eq_of_cover 2 (result m c) (fun t _ => flushed_eq m c t) (cover m)

end Cert.KernelIdeal.Frame
-- ==== Proof.RefRun.lean ====
/- The reference's run: its fifty-three operations in five stretches, and the value each stretch leaves. -/
module

public import proofs.«01_k».proof.Defs
public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 16384

noncomputable section

namespace Cert.ReferenceIdeal.Host

open Idealize.ShloMosaic Idealize.ShloMosaic.TcCoe Idealize.ShloMosaic.StableHlo Idealize.SL.Sem
open Cert.ReferenceIdeal Cert.ReferenceIdeal.Gen

variable {F : FTy → Type} [FloatOps F]

/-! ## The values -/

/-- The samples sorted along the last axis. -/
abbrev sorted (x : FVec F S128x1000x200 .f32) : FVec F S128x1000x200 .f32 := Host.sort S128x1000x200 2 comparator_f32_d2 x

/-- The row numbers to take, a negative one counted from the end, in a trailing axis of one. -/
abbrev starts (t : IVec S128x200 32) : IVec S128x200x1 32 :=
  broadcastInDim S128x200x1 ![0, 1] bcast_S128x200_S128x200x1_0_1
    (select (cmpi .slt t (broadcastInDim S128x200 ![] bcast_S_S128x200 (constantI S_ 32 0#32)))
      (addi t (broadcastInDim S128x200 ![] bcast_S_S128x200 (constantI S_ 32 8192#32))) t)

/-- Which row numbers lie in the table. -/
abbrev inside (t : IVec S128x200 32) : IVec S128x200 1 :=
  Host.reduce IntOp.andi
    (andi (cmpi .sge (starts t) (broadcastInDim S128x200x1 ![] bcast_S_S128x200x1 (constantI S_ 32 0#32)))
      (cmpi .sle (starts t) (broadcastInDim S128x200x1 ![0, 1, 2] bcast_S1x1x1_S128x200x1_0_1_2
        (broadcastInDim S1x1x1 ![2] bcast_S1_S1x1x1_2 (constantI S1 32 8191#32)))))
    (constantI S_ 1 1#1) reducesTo_S128x200x1_S128x200_d2 h_S_

/-- The rows taken from the table, filled where a row number is outside. -/
abbrev taken (e : FVec F S8192x1000 .f32) (t : IVec S128x200 32) : FVec F S128x200x1000 .f32 :=
  select (broadcastInDim S128x200x1000 ![0, 1] bcast_S128x200_S128x200x1000_0_1 (inside t))
    (Host.gather gather_S8192x1000_S128x200x1_S128x200x1000_2_0_n_n_0_2_11000 e (starts t))
    (broadcastInDim S128x200x1000 ![] bcast_S_S128x200x1000 (constant S_ .f32 0x7FC00000#32))

/-- The positions that sort the rows along the middle axis. -/
abbrev argF (y : FVec F S128x200x1000 .f32) : IVec S128x200x1000 32 :=
  (Host.sort2 S128x200x1000 1 comparator_f32_i32_d1 y (iotaInDim S128x200x1000 32 1)).2
/-- The same of words. -/
abbrev argI (y : IVec S128x200x1000 32) : IVec S128x200x1000 32 :=
  (Host.sort2 S128x200x1000 1 comparator_i32_i32_d1 y (iotaInDim S128x200x1000 32 1)).2

/-- The ranks, with the middle axis last. -/
abbrev ranks (y : FVec F S128x200x1000 .f32) : IVec S128x1000x200 32 :=
  transpose S128x1000x200 [0, 2, 1] (argI (argF y)) transposes_S128x200x1000_S128x1000x200_0_2_1

/-- The ranks as positions to read, a negative one counted from the end, in a trailing axis of one. -/
abbrev places (r : IVec S128x1000x200 32) : IVec S128x1000x200x1 32 :=
  shapeCast S128x1000x200x1
    (select (cmpi .slt r (broadcastInDim S128x1000x200 ![] bcast_S_S128x1000x200 (constantI S_ 32 0#32)))
      (addi r (broadcastInDim S128x1000x200 ![] bcast_S_S128x1000x200 (constantI S_ 32 200#32))) r)
    shapeCasts_S128x1000x200_S128x1000x200x1

/-- Which positions are on the axis. -/
abbrev within (p : IVec S128x1000x200x1 32) : IVec S128x1000x200 1 :=
  Host.reduce IntOp.andi
    (andi (cmpi .sge p (broadcastInDim S128x1000x200x1 ![] bcast_S_S128x1000x200x1 (constantI S_ 32 0#32)))
      (cmpi .sle p (broadcastInDim S128x1000x200x1 ![0, 1, 2, 3] bcast_S1x1x1x1_S128x1000x200x1_0_1_2_3
        (broadcastInDim S1x1x1x1 ![3] bcast_S1_S1x1x1x1_3 (constantI S1 32 199#32)))))
    (constantI S_ 1 1#1) reducesTo_S128x1000x200x1_S128x1000x200_d3 h_S_

/-- The samples read at the positions. -/
abbrev along (x : FVec F S128x1000x200 .f32) (p : IVec S128x1000x200x1 32) : FVec F S128x1000x200 .f32 :=
  select (within p)
    (Host.gather gather_S128x1000x200_S128x1000x200x1_S128x1000x200_n_2_01_01_2_3_111 x p)
    (broadcastInDim S128x1000x200 ![] bcast_S_S128x1000x200 (constant S_ .f32 0x7FC00000#32))

/-! ## The operations -/

/-- The sort and the take. -/
abbrev opsA : List (HloOp τ sig (Elt F)) :=
  [ TRef.unary (.of main_arg0) main_call0.v0 (fun x => Host.sort S128x1000x200 2 comparator_f32_d2 x),
    TRef.nullary main_call1.c (constantI S_ 32 0#32),
    TRef.unary main_call1.c main_call1.v0 (broadcastInDim S128x200 ![] bcast_S_S128x200),
    TRef.binary (.of main_arg1) main_call1.v0 main_call1.v1 (cmpi .slt),
    TRef.nullary main_call1.c_0 (constantI S_ 32 8192#32),
    TRef.unary main_call1.c_0 main_call1.v2 (broadcastInDim S128x200 ![] bcast_S_S128x200),
    TRef.binary (.of main_arg1) main_call1.v2 main_call1.v3 addi,
    TRef.ternary main_call1.v1 main_call1.v3 (.of main_arg1) main_call1.call0.v0 select,
    TRef.unary main_call1.call0.v0 main_call1.v5 (broadcastInDim S128x200x1 ![0, 1] bcast_S128x200_S128x200x1_0_1),
    TRef.nullary main_call1.c_1 (constantI S1 32 8191#32),
    TRef.nullary main_call1.c_2 (constantI S_ 32 0#32),
    TRef.unary main_call1.c_2 main_call1.v6 (broadcastInDim S128x200x1 ![] bcast_S_S128x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S128x200x1 ![0, 1, 2] bcast_S1x1x1_S128x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S128x200x1_S128x200_d2 h_S_),
    TRef.binary (.of main_arg2) main_call1.v5 main_call1.v13 (fun x i => Host.gather gather_S8192x1000_S128x200x1_S128x200x1000_2_0_n_n_0_2_11000 x i),
    TRef.unary main_call1.v12 main_call1.v14 (broadcastInDim S128x200x1000 ![0, 1] bcast_S128x200_S128x200x1000_0_1),
    TRef.nullary main_call1.cst (constant S_ .f32 0x7FC00000#32),
    TRef.unary main_call1.cst main_call1.v15 (broadcastInDim S128x200x1000 ![] bcast_S_S128x200x1000),
    TRef.ternary main_call1.v14 main_call1.v13 main_call1.v15 main_call1.v16 select ]

/-- The two argsorts and the transpose. -/
abbrev opsB : List (HloOp τ sig (Elt F)) :=
  [ TRef.nullary main_call2.v0 (iotaInDim S128x200x1000 32 1),
    TRef.binary (.of main_v1) main_call2.v0 main_call2.v1_0 (fun x y => (Host.sort2 S128x200x1000 1 comparator_f32_i32_d1 x y).1),
    TRef.binary (.of main_v1) main_call2.v0 main_call2.v1_1 (fun x y => (Host.sort2 S128x200x1000 1 comparator_f32_i32_d1 x y).2),
    TRef.nullary main_call3.v0 (iotaInDim S128x200x1000 32 1),
    TRef.binary (.of main_v2) main_call3.v0 main_call3.v1_0 (fun x y => (Host.sort2 S128x200x1000 1 comparator_i32_i32_d1 x y).1),
    TRef.binary (.of main_v2) main_call3.v0 main_call3.v1_1 (fun x y => (Host.sort2 S128x200x1000 1 comparator_i32_i32_d1 x y).2),
    unary main_v3 main_v4 ((transpose S128x1000x200 [0, 2, 1] · transposes_S128x200x1000_S128x1000x200_0_2_1) : (⟨S128x200x1000, .i32⟩ : BufTy).Contents (Elt F) → (⟨S128x1000x200, .i32⟩ : BufTy).Contents (Elt F)) ]

/-- The positions of the take along the last axis. -/
abbrev opsC : List (HloOp τ sig (Elt F)) :=
  [ TRef.nullary main_call4.c (constantI S_ 32 0#32),
    TRef.unary main_call4.c main_call4.v0 (broadcastInDim S128x1000x200 ![] bcast_S_S128x1000x200),
    TRef.binary (.of main_v4) main_call4.v0 main_call4.v1 (cmpi .slt),
    TRef.nullary main_call4.c_0 (constantI S_ 32 200#32),
    TRef.unary main_call4.c_0 main_call4.v2 (broadcastInDim S128x1000x200 ![] bcast_S_S128x1000x200),
    TRef.binary (.of main_v4) main_call4.v2 main_call4.v3 addi,
    TRef.ternary main_call4.v1 main_call4.v3 (.of main_v4) main_call4.v4 select,
    TRef.reshape main_call4.v4 main_call4.v5 (rfl : (.i32 : EltTy) = .i32) shapeCasts_S128x1000x200_S128x1000x200x1 ]

/-- Which positions are on the axis. -/
abbrev opsD : List (HloOp τ sig (Elt F)) :=
  [ TRef.nullary main_call4.c_1 (constantI S1 32 199#32),
    TRef.nullary main_call4.c_2 (constantI S_ 32 0#32),
    TRef.unary main_call4.c_2 main_call4.v6 (broadcastInDim S128x1000x200x1 ![] bcast_S_S128x1000x200x1),
    TRef.binary main_call4.v5 main_call4.v6 main_call4.v7 (cmpi .sge),
    TRef.unary main_call4.c_1 main_call4.v8 (broadcastInDim S1x1x1x1 ![3] bcast_S1_S1x1x1x1_3),
    TRef.unary main_call4.v8 main_call4.v9 (broadcastInDim S128x1000x200x1 ![0, 1, 2, 3] bcast_S1x1x1x1_S128x1000x200x1_0_1_2_3),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S128x1000x200x1_S128x1000x200_d3 h_S_) ]

/-- The take along the last axis. -/
abbrev opsE : List (HloOp τ sig (Elt F)) :=
  [ TRef.binary (.of main_v0) main_call4.v5 main_call4.v13 (fun x i => Host.gather gather_S128x1000x200_S128x1000x200x1_S128x1000x200_n_2_01_01_2_3_111 x i),
    TRef.nullary main_call4.cst (constant S_ .f32 0x7FC00000#32),
    TRef.unary main_call4.cst main_call4.v14 (broadcastInDim S128x1000x200 ![] bcast_S_S128x1000x200),
    TRef.ternary main_call4.v12 main_call4.v13 main_call4.v14 main_call4.v15 select ]

/-- The five stretches are the program. -/
theorem main_eq (c : Dev nD) : main (F := F) c = seq (opsA ++ (opsB ++ (opsC ++ (opsD ++ opsE)))) := by
  rw [seq_append, seq_append, seq_append, seq_append]
  simp only [main, fn_sort.body, fn_take.body, fn_where.body, fn_argsort.body, fn_argsort_0.body, fn_take_along_axis.body, seq, bind_assoc, pure_bind]

theorem a_v0 (V : Valuation τ sig (Elt F)) : after opsA V (main_v0 : DevRef τ sig) = sorted (V (main_arg0 : DevRef τ sig)) := by
  after_results_simp
  rfl
theorem a_v1 (V : Valuation τ sig (Elt F)) :
    after opsA V (main_v1 : DevRef τ sig) = taken (V (main_arg2 : DevRef τ sig)) (V (main_arg1 : DevRef τ sig)) := by
  after_results_simp
  simp only [cast_eq]

theorem b_v0 (V : Valuation τ sig (Elt F)) : after opsB V (main_v0 : DevRef τ sig) = V (main_v0 : DevRef τ sig) := by
  after_results_simp
theorem b_v4 (V : Valuation τ sig (Elt F)) : after opsB V (main_v4 : DevRef τ sig) = ranks (V (main_v1 : DevRef τ sig)) := by
  after_results_simp
  rfl
theorem c_v0 (V : Valuation τ sig (Elt F)) : after opsC V (main_v0 : DevRef τ sig) = V (main_v0 : DevRef τ sig) := by
  after_results_simp
theorem c_p (V : Valuation τ sig (Elt F)) : after opsC V (main_call4_v5 : DevRef τ sig) = places (V (main_v4 : DevRef τ sig)) := by
  after_results_simp
  rfl
theorem d_v0 (V : Valuation τ sig (Elt F)) : after opsD V (main_v0 : DevRef τ sig) = V (main_v0 : DevRef τ sig) := by
  after_results_simp
theorem d_p (V : Valuation τ sig (Elt F)) : after opsD V (main_call4_v5 : DevRef τ sig) = V (main_call4_v5 : DevRef τ sig) := by
  after_results_simp
theorem d_w (V : Valuation τ sig (Elt F)) : after opsD V (main_call4_v12 : DevRef τ sig) = within (V (main_call4_v5 : DevRef τ sig)) := by
  after_results_simp
  simp only [cast_eq]
theorem e_v5 (V : Valuation τ sig (Elt F)) :
    after opsE V (main_v5 : DevRef τ sig) = select (V (main_call4_v12 : DevRef τ sig))
    (Host.gather gather_S128x1000x200_S128x1000x200x1_S128x1000x200_n_2_01_01_2_3_111 (V (main_v0 : DevRef τ sig)) (V (main_call4_v5 : DevRef τ sig)))
    (broadcastInDim S128x1000x200 ![] bcast_S_S128x1000x200 (constant S_ .f32 0x7FC00000#32)) := by
  after_results_simp
  simp only [cast_eq]
theorem a_arg0 (V : Valuation τ sig (Elt F)) : after opsA V (main_arg0 : DevRef τ sig) = V (main_arg0 : DevRef τ sig) := by
  after_results_simp
theorem b_arg0 (V : Valuation τ sig (Elt F)) : after opsB V (main_arg0 : DevRef τ sig) = V (main_arg0 : DevRef τ sig) := by
  after_results_simp
theorem c_arg0 (V : Valuation τ sig (Elt F)) : after opsC V (main_arg0 : DevRef τ sig) = V (main_arg0 : DevRef τ sig) := by
  after_results_simp
theorem d_arg0 (V : Valuation τ sig (Elt F)) : after opsD V (main_arg0 : DevRef τ sig) = V (main_arg0 : DevRef τ sig) := by
  after_results_simp
theorem e_arg0 (V : Valuation τ sig (Elt F)) : after opsE V (main_arg0 : DevRef τ sig) = V (main_arg0 : DevRef τ sig) := by
  after_results_simp
theorem a_arg1 (V : Valuation τ sig (Elt F)) : after opsA V (main_arg1 : DevRef τ sig) = V (main_arg1 : DevRef τ sig) := by
  after_results_simp
theorem b_arg1 (V : Valuation τ sig (Elt F)) : after opsB V (main_arg1 : DevRef τ sig) = V (main_arg1 : DevRef τ sig) := by
  after_results_simp
theorem c_arg1 (V : Valuation τ sig (Elt F)) : after opsC V (main_arg1 : DevRef τ sig) = V (main_arg1 : DevRef τ sig) := by
  after_results_simp
theorem d_arg1 (V : Valuation τ sig (Elt F)) : after opsD V (main_arg1 : DevRef τ sig) = V (main_arg1 : DevRef τ sig) := by
  after_results_simp
theorem e_arg1 (V : Valuation τ sig (Elt F)) : after opsE V (main_arg1 : DevRef τ sig) = V (main_arg1 : DevRef τ sig) := by
  after_results_simp
theorem a_arg2 (V : Valuation τ sig (Elt F)) : after opsA V (main_arg2 : DevRef τ sig) = V (main_arg2 : DevRef τ sig) := by
  after_results_simp
theorem b_arg2 (V : Valuation τ sig (Elt F)) : after opsB V (main_arg2 : DevRef τ sig) = V (main_arg2 : DevRef τ sig) := by
  after_results_simp
theorem c_arg2 (V : Valuation τ sig (Elt F)) : after opsC V (main_arg2 : DevRef τ sig) = V (main_arg2 : DevRef τ sig) := by
  after_results_simp
theorem d_arg2 (V : Valuation τ sig (Elt F)) : after opsD V (main_arg2 : DevRef τ sig) = V (main_arg2 : DevRef τ sig) := by
  after_results_simp
theorem e_arg2 (V : Valuation τ sig (Elt F)) : after opsE V (main_arg2 : DevRef τ sig) = V (main_arg2 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- The operations touch buffers of the TensorCore's tables alone. -/
theorem ops_sub : (opsA ++ (opsB ++ (opsC ++ (opsD ++ opsE))) : List (HloOp τ sig (Elt F))).Forall fun op => op.bufs ⊆ tcRefs τ sig := by
  simp only [opsA, opsB, opsC, opsD, opsE, List.cons_append, List.nil_append, List.Forall, nullary_bufs_sub, unary_bufs_sub, binary_bufs_sub,
    ternary_bufs_sub, reshape_bufs_sub, and_self]

/-- The reference's run: its result is the sorted samples read at the ranks of the taken rows. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5)
          = along (sorted (m ((c.tc : Thread nD τ).loc main_arg0)))
              (places (ranks (taken (m ((c.tc : Thread nD τ).loc main_arg2)) (m ((c.tc : Thread nD τ).loc main_arg1)))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 := by
  refine (θ_run defs _ _).mono (fun r h => ⟨fun c => ⟨?_, ?_, ?_, ?_⟩, sem_eq_zero_of_no_sems (by decide) r.2⟩)
    (run_seq scopedRefs_eq scopedSems_eq defs main (fun _ => opsA ++ (opsB ++ (opsC ++ (opsD ++ opsE)))) main_eq (fun _ => ops_sub) m ρ)
  · rw [h c main_v5, after_append, after_append, after_append, after_append, e_v5, d_v0, d_w, d_p, c_v0, c_p, b_v0, b_v4, a_v0, a_v1]
  · rw [h c main_arg0, after_append, after_append, after_append, after_append, e_arg0, d_arg0, c_arg0, b_arg0, a_arg0]
  · rw [h c main_arg1, after_append, after_append, after_append, after_append, e_arg1, d_arg1, c_arg1, b_arg1, a_arg1]
  · rw [h c main_arg2, after_append, after_append, after_append, after_append, e_arg2, d_arg2, c_arg2, b_arg2, a_arg2]

end Cert.ReferenceIdeal.Host
-- ==== Proof.Same.lean ====
/- The printed kernel and its copy for the ideal reading are one program: what is proved of the second holds of the first. -/
module

public import proofs.«01_k».proof.Proof.Frame
public import proofs.«01_k».proof.Proof.Gen.Kernel

@[expose] public section

set_option maxRecDepth 65536

noncomputable section

namespace Cert.Kernel.Same

open Idealize.ShloMosaic Idealize.ShloMosaic.TcCoe Idealize.SL.Sem

variable {F : FTy → Type} [FloatOps F]

/-- The two printed bodies are the same term. -/
theorem body_same : @Cert.Kernel.cc0__body F _ Cert.Kernel.Gen.facts = @Cert.KernelIdeal.cc0__body F _ Cert.KernelIdeal.Gen.facts := rfl

/-- The two body tables are the same, label by label, -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => ?_)
  match l with
  | 0 => exact funext fun ⟨t, s⟩ => rfl

/-- and so are the tables with the pipeline's labels. -/
theorem defs_same : @Cert.Kernel.defs F _ Cert.Kernel.Gen.facts = @Cert.KernelIdeal.defs F _ Cert.KernelIdeal.Gen.facts := by
  unfold Cert.Kernel.defs Cert.KernelIdeal.defs
  exact congrArg (Pipeline.defs Cert.Kernel.pcfgs) defs₀_same

/-- The kernel's run, read off its copy's. -/
theorem frame (m : (ℓ : Loc nD τ sig) → Buf (Elt F) ℓ) (ρ : Dev nD → PrngReg) (hH : Cert.KernelIdeal.Frame.Hyps (F := F) m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have h := (θ_run (Cert.KernelIdeal.defs (F := F)) _ _).mono (fun _ h => And.intro (fun c => (h.1 c).2) h.2)
    (Cert.KernelIdeal.Frame.run_arrays m ρ hH)
  rw [defs_same]
  exact h

end Cert.Kernel.Same
-- ==== Proof.Range.lean ====
/- The preconditions on the indices: each prefetched word names a row of the table. -/
module

public import proofs.«01_k».proof.Proof.Same
public import proofs.«01_k».proof.Proof.Gen.Pre_indices_in_range
public import proofs.«01_k».proof.Proof.Gen.Pre_copula_inputs
public import proofs.«01_k».proof.Defs

@[expose] public section

set_option maxRecDepth 16384

noncomputable section

namespace Cert.Range

open Idealize.ShloMosaic Idealize.ShloMosaic.TcCoe Idealize.SL.Sem

/-- A conjunction of bits is one exactly when both bits are. -/
theorem andi_one (a b : BitVec 1) : IntOp.andi a b = 1#1 ↔ a = 1#1 ∧ b = 1#1 := by revert a b; decide

/-- A truth value's bit is one exactly when it is true. -/
theorem ofBool_one (p : Bool) : BitVec.ofBool p = 1#1 ↔ p = true := by cases p <;> decide

/-- A word between 0 and 8191 as a signed number is below 8192 as an unsigned one. -/
theorem toNat_lt {v : BitVec 32} (h : IntOp.cmpi .sge v 0#32 = 1#1 ∧ IntOp.cmpi .slt v 8192#32 = 1#1) : v.toNat < 8192 := by
  simp only [ofBool_one, IntOp.cmpi, BitVec.sle, BitVec.slt, decide_eq_true_eq, BitVec.toInt, BitVec.toNat_ofNat] at h
  have := v.isLt
  omega

/-- The precondition, word by word. -/
theorem words {F : FTy → Type} [FloatOps F] (a0 : FVec F Cert.Pre_indices_in_range.S128x1000x200 .f32) (a1 : IVec Cert.Pre_indices_in_range.S128x200 32)
    (a2 : FVec F Cert.Pre_indices_in_range.S8192x1000 .f32) (h : Cert.Pre_indices_in_range.fn a0 a1 a2 = fun _ => 1#1)
    (w : Cert.Pre_indices_in_range.S128x200.Idx) : (a1 w).toNat < 8192 := by
  have p := congrFun h w
  simp only [Cert.Pre_indices_in_range.fn, constantI, broadcastInDim, cmpi, andi, andi_one] at p
  exact toNat_lt p

/-- The words name rows of the table. -/
theorem hyps {F : FTy → Type} [FloatOps F] (m : (ℓ : Loc Cert.KernelIdeal.nD Cert.KernelIdeal.τ Cert.KernelIdeal.sig) → Buf (Elt F) ℓ)
    (h : ∀ w : Cert.KernelIdeal.S128x200.Idx, (m (((0 : Dev Cert.KernelIdeal.nD) : Thread Cert.KernelIdeal.nD Cert.KernelIdeal.τ).loc Cert.KernelIdeal.main_arg1) w).toNat < 8192) :
    Cert.KernelIdeal.Frame.Hyps m := by
  intro c i k a
  obtain rfl : c = 0 := Subsingleton.elim _ _
  have hw : (Cert.KernelIdeal.Gather.word (F := F) 0 i k (Cert.KernelIdeal.Frame.tbl m 0)).toNat < 8192 := h _
  match a with
  | ⟨0, _⟩ => exact hw
  | ⟨1, _⟩ => exact Nat.le_refl 1000

/-- The kernel's frame. -/
theorem frame_kernel : Cert.quiescent_Kernel := fun m ρ h =>
  Cert.Kernel.Same.frame m ρ (hyps (F := Bits) m (words _ _ _ (h 0)))

/-- The first part of the second precondition is the first. -/
theorem range_of_copula (m : (ℓ : Loc Cert.KernelIdeal.nD Cert.KernelIdeal.τ Cert.KernelIdeal.sig) → Buf (Elt Ideal) ℓ)
    (h : Cert.Pre_KernelIdeal_copula_inputs m) : Cert.Pre_KernelIdeal m := fun c => (h c).1

/-- The ideal kernel's frame, under either precondition. -/
theorem frame_ideal : Cert.quiescent_KernelIdeal := fun m ρ h =>
  (θ_run Cert.KernelIdeal.defs _ _).mono (fun _ h => ⟨fun c => (h.1 c).2, h.2⟩)
    (Cert.KernelIdeal.Frame.run_arrays m ρ (hyps m (words _ _ _ (h 0))))
theorem frame_ideal_copula : Cert.quiescent_KernelIdeal_pre_copula_inputs := fun m ρ h => frame_ideal m ρ (range_of_copula m h)

end Cert.Range
-- ==== Proof.Grid.lean ====
/- The precondition on the table: each entry is a whole number below 2 ^ 23, over 2 ^ 23. -/
module

public import proofs.«01_k».proof.Proof.Range
public import Idealize.ShloMosaic.Lib.IdealHost

@[expose] public section

noncomputable section

namespace Cert.Grid

open Idealize.ShloMosaic

/-- The kernel's scale is 2 ^ 23. -/
theorem scale_eq : Ideal.ofBits .f32 0x4B000000#32 = ((8388608 : ℝ) : EReal) := by
  simp [Ideal.ofBits, Ideal.ieee, -EReal.coe_mul]

/-- The upper bound is 1. -/
theorem one_eq : Ideal.ofBits .f32 0x3F800000#32 = ((1 : ℝ) : EReal) := by
  simp [Ideal.ofBits, Ideal.ieee, -EReal.coe_mul]; norm_num

/-- The lower bound is 0. -/
theorem zero_eq : Ideal.ofBits .f32 0x00000000#32 = ((0 : ℝ) : EReal) := by
  simp [Ideal.ofBits, Ideal.ieee]

/-- A number in [0, 1) that 2 ^ 23 makes whole. -/
theorem exists_num (e : EReal) (h₀ : ((0 : ℝ) : EReal) ≤ e) (h₁ : e < ((1 : ℝ) : EReal))
    (h₂ : Ideal.liftRound Int.floor (e * ((8388608 : ℝ) : EReal)) = e * ((8388608 : ℝ) : EReal)) :
    ∃ n : Nat, n < 8388608 ∧ e = (((n : ℝ) / 8388608 : ℝ) : EReal) := by
  induction e with
  | bot => exact absurd (le_bot_iff.mp h₀) (EReal.coe_ne_bot 0)
  | top => exact absurd h₁ (not_lt.mpr le_top)
  | coe r =>
    have h₀ := EReal.coe_le_coe_iff.mp h₀
    have h₁ := EReal.coe_lt_coe_iff.mp h₁
    rw [← EReal.coe_mul] at h₂
    have h₂ : ((⌊r * 8388608⌋ : ℝ) : EReal) = ((r * 8388608 : ℝ) : EReal) := h₂
    have h₂ := EReal.coe_eq_coe_iff.mp h₂
    have h0 : 0 ≤ ⌊r * 8388608⌋ := Int.floor_nonneg.mpr (by positivity)
    obtain ⟨n, hn⟩ := Int.eq_ofNat_of_zero_le h0
    rw [hn] at h₂
    have h₂ : (n : ℝ) = r * 8388608 := by simpa using h₂
    refine ⟨n, ?_, ?_⟩
    · have : (n : ℝ) < 8388608 := by rw [h₂]; linarith
      exact_mod_cast this
    · rw [h₂]; congr 1; ring

/-- The integer the kernel makes of such a number. -/
theorem num_word (n : Nat) (hn : n < 8388608) :
    Ideal.fptosi 32 ((((n : ℝ) / 8388608 : ℝ) : EReal) * Ideal.ofBits .f32 0x4B000000#32) = BitVec.ofNat 32 n := by
  rw [scale_eq, ← EReal.coe_mul, show (n : ℝ) / 8388608 * 8388608 = ((n : ℤ) : ℝ) by push_cast; field_simp]
  unfold Ideal.fptosi
  show BitVec.ofInt 32 (max _ (min _ (if (0 : ℝ) ≤ ((n : ℤ) : ℝ) then ⌊((n : ℤ) : ℝ)⌋ else ⌈((n : ℤ) : ℝ)⌉))) = _
  rw [if_pos (by positivity), Int.floor_intCast, min_eq_right (by norm_num; omega), max_eq_right (by norm_num)]
  rfl

/-- The order of such numbers is their numerators'. -/
theorem num_lt (a b : Nat) : ((((a : ℝ) / 8388608 : ℝ) : EReal) < (((b : ℝ) / 8388608 : ℝ) : EReal)) ↔ a < b := by
  rw [EReal.coe_lt_coe_iff, div_lt_div_iff_of_pos_right (by norm_num), Nat.cast_lt]

/-- The precondition, entry by entry. -/
theorem entries (a0 : FVec Ideal Cert.Pre_copula_inputs.S128x1000x200 .f32) (a1 : IVec Cert.Pre_copula_inputs.S128x200 32)
    (a2 : FVec Ideal Cert.Pre_copula_inputs.S8192x1000 .f32) (h : (Cert.Pre_copula_inputs.fn (F := Ideal) a0 a1 a2).2 = fun _ => 1#1)
    (w : Cert.Pre_copula_inputs.S8192x1000.Idx) : ∃ n : Nat, n < 8388608 ∧ (a2 w : EReal) = (((n : ℝ) / 8388608 : ℝ) : EReal) := by
  have p := congrFun h w
  simp only [Cert.Pre_copula_inputs.fn, andi, Cert.Range.andi_one] at p
  obtain ⟨⟨p₀, p₁⟩, p₂⟩ := p
  have p₀ := of_decide_eq_true ((Cert.Range.ofBool_one _).mp p₀)
  have p₁ := of_decide_eq_true ((Cert.Range.ofBool_one _).mp p₁)
  have p₂ := of_decide_eq_true ((Cert.Range.ofBool_one _).mp p₂)
  refine exists_num _ (zero_eq ▸ p₀) (one_eq ▸ p₁) (scale_eq ▸ p₂)

end Cert.Grid
-- ==== Proof.Take.lean ====
/- The reference's two reads by word: where the words are in range, neither the wrap nor the fill is taken. -/
module

public import proofs.«01_k».proof.Proof.RefRun
public import proofs.«01_k».proof.Proof.Grid
public import Idealize.ShloMosaic.Lib.ReduceAll
public import Idealize.ShloMosaic.Lib.ValueLayout

@[expose] public section

set_option maxRecDepth 16384

noncomputable section

namespace Cert.ReferenceIdeal.Host

open Idealize.ShloMosaic Idealize.ShloMosaic.ValueIdx
open Cert.ReferenceIdeal Cert.ReferenceIdeal.Gen

variable {F : FTy → Type} [FloatOps F]

/-- A word below 2 ^ 31 is the same number signed. -/
theorem signed (v : BitVec 32) (h : v.toNat < 2147483648) : v.toInt = (v.toNat : Int) := by
  rw [BitVec.toInt_eq_toNat_cond, if_pos (by omega)]

/-- A word that is not negative is not counted from the end. -/
theorem wrap_none (v k : BitVec 32) (h : v.toNat < 2147483648) :
    Scalar.select (IntOp.cmpi .slt v 0#32) (IntOp.addi v k) v = v := by
  have e : IntOp.cmpi .slt v 0#32 = 0#1 := by
    show BitVec.ofBool (v.slt 0#32) = 0#1
    have : v.slt 0#32 = false := by
      unfold BitVec.slt
      rw [signed v h]
      exact decide_eq_false (by simp)
    rw [this]; rfl
  rw [e]; rfl

/-- A word between 0 and a bound passes both comparisons. -/
theorem bounds_one (v k : BitVec 32) (hk : k.toNat < 2147483648) (h : v.toNat ≤ k.toNat) :
    IntOp.andi (IntOp.cmpi .sge v 0#32) (IntOp.cmpi .sle v k) = 1#1 := by
  refine (Cert.Range.andi_one _ _).mpr ⟨(Cert.Range.ofBool_one _).mpr ?_, (Cert.Range.ofBool_one _).mpr ?_⟩
  · show (0#32).sle v = true
    unfold BitVec.sle
    rw [signed v (by omega)]
    exact decide_eq_true (by simp)
  · show v.sle k = true
    unfold BitVec.sle
    rw [signed v (by omega), signed k hk]
    exact decide_eq_true (by omega)

/-- The row numbers taken are the words. -/
theorem starts_apply (t : IVec S128x200 32) (ht : ∀ w, (t w).toNat < 8192) (b : Fin 128) (s : Fin 200) (u : Fin 1) :
    starts t (ix3 b s u) = t (ix2 b s) := by
  refine (broadcastInDim_apply _ _ _ (ix3 b s u) (ix2 b s) fun a => ?_).trans ?_
  · match a with
    | ⟨0, _⟩ => rfl
    | ⟨1, _⟩ => rfl
  · exact wrap_none (t (ix2 b s)) 8192#32 (by have := ht (ix2 b s); omega)

/-- All of them are inside the table. -/
theorem inside_one (t : IVec S128x200 32) (ht : ∀ w, (t w).toNat < 8192) (j : S128x200.Idx) : inside t j = 1#1 := by
  refine Host.reduce_andi_one _ _ _ _ j rfl fun i => ?_
  show IntOp.andi (IntOp.cmpi .sge (starts t i) 0#32) (IntOp.cmpi .sle (starts t i) 8191#32) = 1#1
  refine bounds_one _ _ (by decide) ?_
  obtain ⟨b, s, u, rfl⟩ : ∃ (b : Fin 128) (s : Fin 200) (u : Fin 1), i = ix3 b s u := ⟨i 0, i 1, i 2, eq_ix3 i⟩
  rw [starts_apply t ht]
  have := ht (ix2 b s)
  show _ ≤ 8191
  omega

/-- The table's gather reads the row its word names. -/
theorem rows_apply (e : FVec F S8192x1000 .f32) (idx : IVec S128x200x1 32) (b : Fin 128) (s : Fin 200) (n : Fin 1000)
    (r : Fin 8192) (hr : (idx (ix3 b s (0 : Fin 1))).toInt = (r.val : Int)) :
    Host.gather gather_S8192x1000_S128x200x1_S128x200x1000_2_0_n_n_0_2_11000 e idx (ix3 b s n) = e (ix2 r n) := by
  unfold Host.gather
  congr 1
  funext a
  refine Fin.ext ?_
  show GatherDims.start _ (ix3 b s n) idx a + GatherDims.batchCoord _ (ix3 b s n) a + GatherDims.offCoord _ (ix3 b s n) a = _
  rw [GatherDims.batchCoord_eq_zero _ _ _ (List.not_mem_nil)]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S8192x1000_S128x200x1_S128x200x1000_2_0_n_n_0_2_11000.startIndexMap from List.mem_singleton.mpr rfl)]
    refine (congrArg (fun j => min (idx j).toInt.toNat (8192 - 1)) (?_ : _ = ix3 b s (0 : Fin 1))).trans ?_
    · funext c
      match c with
      | ⟨0, _⟩ => rfl
      | ⟨1, _⟩ => rfl
      | ⟨2, _⟩ => rfl
    · show min (idx (ix3 b s (0 : Fin 1))).toInt.toNat (8192 - 1) = r.val
      rw [hr]
      have := r.isLt
      omega
  · unfold GatherDims.start
    rw [dif_neg (by decide)]
    exact (Nat.zero_add _).trans rfl

/-- The rows taken from the table are the rows the words name. -/
theorem taken_apply (e : FVec F S8192x1000 .f32) (t : IVec S128x200 32) (ht : ∀ w, (t w).toNat < 8192) (b : Fin 128) (s : Fin 200) (n : Fin 1000) :
    taken e t (ix3 b s n) = e (ix2 (⟨(t (ix2 b s)).toNat, ht _⟩ : Fin 8192) n) := by
  have hc : broadcastInDim S128x200x1000 ![0, 1] bcast_S128x200_S128x200x1000_0_1 (inside t) (ix3 b s n) = 1#1 :=
    inside_one t ht _
  show Scalar.select _ _ _ = _
  rw [hc]
  show Host.gather _ e (starts t) (ix3 b s n) = _
  refine rows_apply e (starts t) b s n _ ?_
  rw [starts_apply t ht]
  exact signed _ (by have := ht (ix2 b s); omega)

/-- The positions read are the ranks. -/
theorem places_apply (r : IVec S128x1000x200 32) (hr : ∀ w, (r w).toNat < 200) (b : Fin 128) (n : Fin 1000) (s : Fin 200) (u : Fin 1) :
    places r (ix4 b n s u) = r (ix3 b n s) := by
  refine (shapeCast_apply _ _ _ (ix3 b n s) ?_).trans (wrap_none (r (ix3 b n s)) 200#32 (by have := hr (ix3 b n s); omega))
  rw [Shape.rowMajor_val_four, Shape.rowMajor_val_three]
  show (b.val * 1000 + n.val) * 200 + s.val = ((b.val * 1000 + n.val) * 200 + s.val) * 1 + u.val
  omega

/-- All of them are on the axis. -/
theorem within_one (r : IVec S128x1000x200 32) (hr : ∀ w, (r w).toNat < 200) (j : S128x1000x200.Idx) : within (places r) j = 1#1 := by
  refine Host.reduce_andi_one _ _ _ _ j rfl fun i => ?_
  show IntOp.andi (IntOp.cmpi .sge (places r i) 0#32) (IntOp.cmpi .sle (places r i) 199#32) = 1#1
  refine bounds_one _ _ (by decide) ?_
  obtain ⟨b, n, s, u, rfl⟩ : ∃ (b : Fin 128) (n : Fin 1000) (s : Fin 200) (u : Fin 1), i = ix4 b n s u := ⟨i 0, i 1, i 2, i 3, eq_ix4 i⟩
  rw [places_apply r hr]
  have := hr (ix3 b n s)
  show _ ≤ 199
  omega

/-- The gather along the last axis reads the position its word names. -/
theorem axis_apply (x : FVec F S128x1000x200 .f32) (p : IVec S128x1000x200x1 32) (b : Fin 128) (n : Fin 1000) (s : Fin 200)
    (k : Fin 200) (hk : (p (ix4 b n s (0 : Fin 1))).toInt = (k.val : Int)) :
    Host.gather gather_S128x1000x200_S128x1000x200x1_S128x1000x200_n_2_01_01_2_3_111 x p (ix3 b n s) = x (ix3 b n k) := by
  unfold Host.gather
  congr 1
  funext a
  refine Fin.ext ?_
  show GatherDims.start _ (ix3 b n s) p a + GatherDims.batchCoord _ (ix3 b n s) a + GatherDims.offCoord _ (ix3 b n s) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    unfold GatherDims.batchCoord
    rw [dif_pos (by decide)]
    exact (Nat.zero_add _).trans rfl
  · rw [GatherDims.start_batching _ _ _ _ (by decide), GatherDims.offCoord_eq_zero _ _ _ (by decide)]
    unfold GatherDims.batchCoord
    rw [dif_pos (by decide)]
    exact (Nat.zero_add _).trans rfl
  · rw [GatherDims.batchCoord_eq_zero _ _ _ (by decide), GatherDims.offCoord_eq_zero _ _ _ (by decide)]
    unfold GatherDims.start
    rw [dif_pos (show (2 : Fin 3) ∈ gather_S128x1000x200_S128x1000x200x1_S128x1000x200_n_2_01_01_2_3_111.startIndexMap from List.mem_singleton.mpr rfl)]
    refine (congrArg (fun j => min (p j).toInt.toNat (200 - 1)) (?_ : _ = ix4 b n s (0 : Fin 1))).trans ?_
    · funext c
      match c with
      | ⟨0, _⟩ => rfl
      | ⟨1, _⟩ => rfl
      | ⟨2, _⟩ => rfl
      | ⟨3, _⟩ => rfl
    · show min (p (ix4 b n s (0 : Fin 1))).toInt.toNat (200 - 1) = k.val
      rw [hk]
      have := k.isLt
      omega

/-- The samples read at ranks are the samples at those places. -/
theorem along_apply (x : FVec F S128x1000x200 .f32) (r : IVec S128x1000x200 32) (hr : ∀ w, (r w).toNat < 200)
    (b : Fin 128) (n : Fin 1000) (s : Fin 200) :
    along x (places r) (ix3 b n s) = x (ix3 b n (⟨(r (ix3 b n s)).toNat, hr _⟩ : Fin 200)) := by
  have hc : within (places r) (ix3 b n s) = 1#1 := within_one r hr _
  show Scalar.select _ _ _ = _
  rw [hc]
  show Host.gather _ x (places r) (ix3 b n s) = _
  refine axis_apply x (places r) b n s _ ?_
  rw [places_apply r hr]
  exact signed _ (by have := hr (ix3 b n s); omega)

end Cert.ReferenceIdeal.Host
-- ==== Proof.Place.lean ====
/-
  WHERE A STAGE'S LAYOUTS READ. Row r of the matrix is row (((A * d + D) * g + C) * 2 + E) * j + o of the array [q, d, g, 2, j]: the
  slices of a stage read there, and the concatenations write there.
-/
module

public import proofs.«01_k».proof.Proof.Stage
public import Idealize.ShloMosaic.Lib.ValueIdxRank6

@[expose] public section

namespace Cert.Bitonic

open Idealize.ShloMosaic Idealize.ShloMosaic.ValueIdx

variable {α : Type}

/-- The slice of block `a` and row `b` of each pair reads the matrix at that row. -/
theorem pick_cut (q d g j a b : Nat) (ha : a < d) (hb : b < 2) (h : q * d * g * 2 * j = 256) (X : Rows.Idx → α)
    (A : Fin q) (C : Fin g) (o : Fin j) (M : Fin 1000) (r : Fin 256) (hr : r.val = (((A.val * d + a) * g + C.val) * 2 + b) * j + o.val) :
    pick q d g j a b ha hb (cut q d g j h X) (ix4 A C o M) = X (ix2 r M) := by
  unfold pick
  rw [shapeCast_apply _ _ (ix4 A C o M) (ix6 A (0 : Fin 1) C (0 : Fin 1) o M) (by
      rw [Shape.rowMajor_val_six, Shape.rowMajor_val_four]
      show (((((A.val * 1 + 0) * g + C.val) * 1 + 0) * j + o.val) * 1000 + M.val) = ((A.val * g + C.val) * j + o.val) * 1000 + M.val
      simp only [Nat.mul_one, Nat.add_zero]),
    extractStridedSlice_apply _ _ _ _ (ix6 A (⟨a, ha⟩ : Fin d) C (⟨b, hb⟩ : Fin 2) o M)
      (fun x => match x with
        | ⟨0, _⟩ => (Nat.zero_add _).symm | ⟨1, _⟩ => rfl | ⟨2, _⟩ => (Nat.zero_add _).symm | ⟨3, _⟩ => rfl
        | ⟨4, _⟩ => (Nat.zero_add _).symm | ⟨5, _⟩ => (Nat.zero_add _).symm)]
  refine shapeCast_apply _ _ _ (ix2 r M) ?_
  rw [Shape.rowMajor_val_six, Shape.rowMajor_val_two]
  show r.val * 1000 + M.val = (((((A.val * d + a) * g + C.val) * 2 + b) * j + o.val) * 1000 + M.val)
  rw [hr]

/-- A joined block reads its first rows from the first operand and its second rows from the second. -/
theorem join_apply (q g j : Nat) (L H : (Sh4 q g j).Idx → α) (A : Fin q) (C : Fin g) (E : Fin 2) (o : Fin j) (M : Fin 1000) :
    join q g j L H (ix6 A (0 : Fin 1) C E o M) = if E.val = 0 then L (ix4 A C o M) else H (ix4 A C o M) := by
  have drop (K : (Sh4 q g j).Idx → α) : shapeCast (Sh5 q g 1 j) K (casts_pair q g j) (ix5 A C (0 : Fin 1) o M) = K (ix4 A C o M) := by
    refine shapeCast_apply _ _ _ (ix4 A C o M) ?_
    rw [Shape.rowMajor_val_four, Shape.rowMajor_val_five]
    show ((A.val * g + C.val) * j + o.val) * 1000 + M.val = ((((A.val * g + C.val) * 1 + 0) * j + o.val) * 1000 + M.val)
    simp only [Nat.mul_one, Nat.add_zero]
  refine (shapeCast_apply _ _ _ (ix5 A C E o M) ?_).trans ?_
  · rw [Shape.rowMajor_val_six, Shape.rowMajor_val_five]
    show ((((A.val * g + C.val) * 2 + E.val) * j + o.val) * 1000 + M.val) = (((((A.val * 1 + 0) * g + C.val) * 2 + E.val) * j + o.val) * 1000 + M.val)
    simp only [Nat.mul_one, Nat.add_zero]
  · match E with
    | ⟨0, _⟩ =>
      exact (concatenate_pair_apply_left (t := Sh5 q g 2 j) (s₁ := Sh5 q g 1 j) (s₂ := Sh5 q g 1 j) 2 _ _ (concats_pair q g j) _ rfl (ix5 A C (0 : Fin 1) o M)
        (fun x => match x with | ⟨0, _⟩ => rfl | ⟨1, _⟩ => rfl | ⟨2, _⟩ => rfl | ⟨3, _⟩ => rfl | ⟨4, _⟩ => rfl)).trans (drop L)
    | ⟨1, _⟩ =>
      exact (concatenate_pair_apply_right (t := Sh5 q g 2 j) (s₁ := Sh5 q g 1 j) (s₂ := Sh5 q g 1 j) 2 _ _ (concats_pair q g j) _ rfl rfl (ix5 A C (0 : Fin 1) o M)
        (fun x hx => match x, hx with
          | ⟨0, _⟩, _ => rfl | ⟨1, _⟩, _ => rfl | ⟨2, _⟩, hx => absurd rfl hx | ⟨3, _⟩, _ => rfl | ⟨4, _⟩, _ => rfl) rfl).trans (drop H)

/-- The two blocks glued read the ascending block or the descending one. -/
theorem glue_apply (q g j : Nat) (h : q * 2 * g * 2 * j = 256) (P N : (Sh6 q 1 g 2 j).Idx → α) (A : Fin q) (D : Fin 2) (C : Fin g) (E : Fin 2)
    (o : Fin j) (M : Fin 1000) (r : Fin 256) (hr : r.val = (((A.val * 2 + D.val) * g + C.val) * 2 + E.val) * j + o.val) :
    glue q g j h P N (ix2 r M) = if D.val = 0 then P (ix6 A (0 : Fin 1) C E o M) else N (ix6 A (0 : Fin 1) C E o M) := by
  refine (shapeCast_apply _ _ _ (ix6 A D C E o M) ?_).trans ?_
  · rw [Shape.rowMajor_val_six, Shape.rowMajor_val_two]
    show (((((A.val * 2 + D.val) * g + C.val) * 2 + E.val) * j + o.val) * 1000 + M.val) = r.val * 1000 + M.val
    rw [hr]
  · match D with
    | ⟨0, _⟩ =>
      exact concatenate_pair_apply_left (t := Sh6 q 2 g 2 j) (s₁ := Sh6 q 1 g 2 j) (s₂ := Sh6 q 1 g 2 j) 1 P N (concats_block q g j) _ rfl (ix6 A (0 : Fin 1) C E o M)
        (fun x => match x with | ⟨0, _⟩ => rfl | ⟨1, _⟩ => rfl | ⟨2, _⟩ => rfl | ⟨3, _⟩ => rfl | ⟨4, _⟩ => rfl | ⟨5, _⟩ => rfl)
    | ⟨1, _⟩ =>
      exact concatenate_pair_apply_right (t := Sh6 q 2 g 2 j) (s₁ := Sh6 q 1 g 2 j) (s₂ := Sh6 q 1 g 2 j) 1 P N (concats_block q g j) _ rfl rfl (ix6 A (0 : Fin 1) C E o M)
        (fun x hx => match x, hx with
          | ⟨0, _⟩, _ => rfl | ⟨1, _⟩, hx => absurd rfl hx | ⟨2, _⟩, _ => rfl | ⟨3, _⟩, _ => rfl | ⟨4, _⟩, _ => rfl | ⟨5, _⟩, _ => rfl) rfl

/-- One block as rows. -/
theorem whole_apply (g j : Nat) (h : 1 * 1 * g * 2 * j = 256) (P : (Sh6 1 1 g 2 j).Idx → α) (C : Fin g) (E : Fin 2)
    (o : Fin j) (M : Fin 1000) (r : Fin 256) (hr : r.val = (C.val * 2 + E.val) * j + o.val) :
    shapeCast Rows P (casts_out h) (ix2 r M) = P (ix6 (0 : Fin 1) (0 : Fin 1) C E o M) := by
  refine shapeCast_apply _ _ _ _ ?_
  rw [Shape.rowMajor_val_six, Shape.rowMajor_val_two]
  show (((((0 * 1 + 0) * g + C.val) * 2 + E.val) * j + o.val) * 1000 + M.val) = r.val * 1000 + M.val
  rw [hr]; simp

end Cert.Bitonic
-- ==== Proof.Column.lean ====
/-
  A COLUMN UNDER THE KERNEL'S STAGES. Along one lane, a stage of the kernel is a stage of the bitonic sorting network on 256
  positions, and the 36 stages are that network.
-/
module

public import proofs.«01_k».proof.Proof.Place
public import Idealize.ShloMosaic.Lib.SortNet.Bitonic
public import Mathlib.Tactic.Ring
public import Mathlib.Data.Nat.Bitwise

@[expose] public section

namespace Cert.Bitonic

open Idealize.ShloMosaic Idealize.ShloMosaic.ValueIdx Idealize.ShloMosaic.SortNet

variable {α β : Type} [LinearOrder β]

/-- One lane of the matrix, through a key. -/
def col (key : α → β) (X : Rows.Idx → α) (M : Fin 1000) : Fin (2 ^ 8) → β := fun r => key (X (ix2 (n0 := 256) r M))

/-- The network's stage at distance `2 ^ s` while runs of `2 ^ (l + 1)` are formed. -/
abbrev net (l s : Nat) : Network (2 ^ 8) := stage 8 s fun i => (decide (i.val &&& 2 ^ (l + 1) = 0)) == false

/-- A bit is clear when the quotient by its weight is even. -/
theorem and_clear (r k : Nat) : r &&& 2 ^ k = 0 ↔ r / 2 ^ k % 2 = 0 := by
  have e : r &&& 2 ^ k = (r.testBit k).toNat * 2 ^ k := Nat.and_two_pow r k
  rw [e, Nat.testBit_eq_decide_div_mod_eq]
  rcases Nat.mod_two_eq_zero_or_one (r / 2 ^ k) with h | h <;> simp [h]

section
variable {key : α → β} {lo hi : {s : Shape} → (s.Idx → α) → (s.Idx → α) → s.Idx → α}
  (hlo : ∀ {s : Shape} (x y : s.Idx → α) (i : s.Idx), key (lo x y i) = min (key (x i)) (key (y i)))
  (hhi : ∀ {s : Shape} (x y : s.Idx → α) (i : s.Idx), key (hi x y i) = max (key (x i)) (key (y i)))
include hlo hhi

/-- What a stage of two blocks leaves in the two rows of a pair. -/
theorem both_apply {q g j : Nat} (h : q * 2 * g * 2 * j = 256) (X : Rows.Idx → α) (A : Fin q) (D : Fin 2) (C : Fin g) (o : Fin j)
    (M : Fin 1000) (r₀ r₁ : Fin 256) (h₀ : r₀.val = (((A.val * 2 + D.val) * g + C.val) * 2 + 0) * j + o.val)
    (h₁ : r₁.val = (((A.val * 2 + D.val) * g + C.val) * 2 + 1) * j + o.val) :
    key (both lo hi q g j h X (ix2 r₀ M))
        = (if D.val = 0 then min (key (X (ix2 r₀ M))) (key (X (ix2 r₁ M))) else max (key (X (ix2 r₀ M))) (key (X (ix2 r₁ M))))
      ∧ key (both lo hi q g j h X (ix2 r₁ M))
        = (if D.val = 0 then max (key (X (ix2 r₀ M))) (key (X (ix2 r₁ M))) else min (key (X (ix2 r₀ M))) (key (X (ix2 r₁ M)))) := by
  unfold both
  rw [glue_apply q g j h _ _ A D C 0 o M r₀ h₀, glue_apply q g j h _ _ A D C 1 o M r₁ h₁]
  simp only [join_apply]
  match D, h₀, h₁ with
  | ⟨0, _⟩, h₀, h₁ =>
    simp only [if_true, Fin.val_zero, Fin.val_one, one_ne_zero, if_false, hlo, hhi,
      pick_cut q 2 g j 0 0 (by decide) (by decide) h X A C o M r₀ h₀, pick_cut q 2 g j 0 1 (by decide) (by decide) h X A C o M r₁ h₁, and_self]
  | ⟨1, _⟩, h₀, h₁ =>
    simp only [if_true, Fin.val_zero, Fin.val_one, one_ne_zero, if_false, hlo, hhi,
      pick_cut q 2 g j 1 0 (by decide) (by decide) h X A C o M r₀ h₀, pick_cut q 2 g j 1 1 (by decide) (by decide) h X A C o M r₁ h₁, and_self]

/-- What a stage of one block leaves in the two rows of a pair. -/
theorem asc_apply {g j : Nat} (h : 1 * 1 * g * 2 * j = 256) (X : Rows.Idx → α) (C : Fin g) (o : Fin j)
    (M : Fin 1000) (r₀ r₁ : Fin 256) (h₀ : r₀.val = (C.val * 2 + 0) * j + o.val) (h₁ : r₁.val = (C.val * 2 + 1) * j + o.val) :
    key (asc lo hi g j h X (ix2 r₀ M)) = min (key (X (ix2 r₀ M))) (key (X (ix2 r₁ M)))
      ∧ key (asc lo hi g j h X (ix2 r₁ M)) = max (key (X (ix2 r₀ M))) (key (X (ix2 r₁ M))) := by
  unfold asc
  rw [whole_apply g j h _ C 0 o M r₀ h₀, whole_apply g j h _ C 1 o M r₁ h₁]
  simp only [join_apply, if_true, Fin.val_zero, Fin.val_one, one_ne_zero, if_false, hlo, hhi,
    pick_cut 1 1 g j 0 0 (by decide) (by decide) h X 0 C o M r₀ (by simpa using h₀),
    pick_cut 1 1 g j 0 1 (by decide) (by decide) h X 0 C o M r₁ (by simpa using h₁), and_self]

omit hlo hhi in
/-- A function that pairs positions as a network's stage does is that stage. -/
theorem eq_net {l s : Nat} (hs : s < 8) (v w : Fin (2 ^ 8) → β)
    (H : ∀ r : Fin (2 ^ 8), r.val &&& 2 ^ s = 0 →
      w r = (if r.val &&& 2 ^ (l + 1) = 0 then min (v r) (v (partner 8 s r)) else max (v r) (v (partner 8 s r)))
      ∧ w (partner 8 s r) = (if r.val &&& 2 ^ (l + 1) = 0 then max (v r) (v (partner 8 s r)) else min (v r) (v (partner 8 s r)))) :
    w = Network.apply (net l s) v := by
  have key (r : Fin (2 ^ 8)) (hr : r.val &&& 2 ^ s = 0) :
      w r = Network.apply (net l s) v r ∧ w (partner 8 s r) = Network.apply (net l s) v (partner 8 s r) := by
    rw [(H r hr).1, (H r hr).2, (apply_stage hs _ v r hr).1, (apply_stage hs _ v r hr).2]
    by_cases hb : r.val &&& 2 ^ (l + 1) = 0 <;> simp [hb]
  funext r
  by_cases hr : r.val &&& 2 ^ s = 0
  · exact (key r hr).1
  · have := (key _ (partner_and_of_set hs r hr)).2
    rwa [partner_partner hs] at this

/-- A stage of two blocks is a stage of the network on each lane. -/
theorem both_step {l s q g j : Nat} {h : q * 2 * g * 2 * j = 256} (hs : s < 8) (hj : j = 2 ^ s) (hg : g * 2 * j = 2 ^ (l + 1))
    {X : Rows.Idx → α} {M : Fin 1000} {v : Fin (2 ^ 8) → β} (hv : col key X M = v) :
    col key (both lo hi q g j h X) M = Network.apply (net l s) v := by
  subst hv
  have hj0 : 0 < j := hj ▸ Nat.two_pow_pos s
  have hg0 : 0 < g := Nat.pos_of_ne_zero fun e => by subst e; simp at h
  refine eq_net hs _ _ fun r hr => ?_
  have hE : r.val / j % 2 = 0 := by rw [hj]; exact (and_clear _ _).mp hr
  have e1 := Nat.div_add_mod r.val j
  have e2 := Nat.div_add_mod (r.val / j) 2
  have e3 := Nat.div_add_mod (r.val / j / 2) g
  have e4 := Nat.div_add_mod (r.val / j / 2 / g) 2
  have hA : r.val / j / 2 / g / 2 < q := by
    simp only [Nat.div_div_eq_div_mul]
    refine Nat.div_lt_of_lt_mul (lt_of_lt_of_eq r.isLt ?_)
    rw [← show q * 2 * g * 2 * j = 2 ^ 8 from h]; ring
  have hD : (r.val &&& 2 ^ (l + 1) = 0) ↔ r.val / j / 2 / g % 2 = 0 := by
    rw [and_clear, ← hg, Nat.div_div_eq_div_mul, Nat.div_div_eq_div_mul, show j * (2 * g) = g * 2 * j by ring]
  have h₀ : r.val = (((r.val / j / 2 / g / 2 * 2 + r.val / j / 2 / g % 2) * g + r.val / j / 2 % g) * 2 + 0) * j + r.val % j := by
    rw [show r.val / j / 2 / g / 2 * 2 + r.val / j / 2 / g % 2 = r.val / j / 2 / g by omega,
      show r.val / j / 2 / g * g + r.val / j / 2 % g = r.val / j / 2 by rw [Nat.mul_comm]; exact e3,
      show r.val / j / 2 * 2 + 0 = r.val / j by omega, Nat.mul_comm]
    exact e1.symm
  have h₁ : (partner 8 s r).val
      = (((r.val / j / 2 / g / 2 * 2 + r.val / j / 2 / g % 2) * g + r.val / j / 2 % g) * 2 + 1) * j + r.val % j := by
    rw [partner_val_of_clear hs r hr, ← hj]
    conv_lhs => rw [h₀]
    ring
  have := both_apply hlo hhi h X ⟨_, hA⟩ ⟨_, Nat.mod_lt (r.val / j / 2 / g) (by decide : 0 < 2)⟩ ⟨_, Nat.mod_lt (r.val / j / 2) hg0⟩
    ⟨_, Nat.mod_lt r.val hj0⟩ M r (partner 8 s r) h₀ h₁
  simp only [hD]
  exact this

/-- A stage of one block is a stage of the network on each lane. -/
theorem asc_step {s g j : Nat} {h : 1 * 1 * g * 2 * j = 256} (hs : s < 8) (hj : j = 2 ^ s)
    {X : Rows.Idx → α} {M : Fin 1000} {v : Fin (2 ^ 8) → β} (hv : col key X M = v) :
    col key (asc lo hi g j h X) M = Network.apply (net 7 s) v := by
  subst hv
  have hj0 : 0 < j := hj ▸ Nat.two_pow_pos s
  refine eq_net hs _ _ fun r hr => ?_
  have hE : r.val / j % 2 = 0 := by rw [hj]; exact (and_clear _ _).mp hr
  have e1 := Nat.div_add_mod r.val j
  have hC : r.val / j / 2 < g := by
    rw [Nat.div_div_eq_div_mul]
    refine Nat.div_lt_of_lt_mul (lt_of_lt_of_eq r.isLt ?_)
    rw [← show 1 * 1 * g * 2 * j = 2 ^ 8 from h]; ring
  have hD : r.val &&& 2 ^ (7 + 1) = 0 := by
    rw [and_clear, Nat.div_eq_of_lt r.isLt]
  have h₀ : r.val = (r.val / j / 2 * 2 + 0) * j + r.val % j := by
    rw [show r.val / j / 2 * 2 + 0 = r.val / j by omega, Nat.mul_comm]
    exact e1.symm
  have h₁ : (partner 8 s r).val = (r.val / j / 2 * 2 + 1) * j + r.val % j := by
    rw [partner_val_of_clear hs r hr, ← hj]
    conv_lhs => rw [h₀]
    ring
  rw [if_pos hD, if_pos hD]
  exact asc_apply hlo hhi h X ⟨_, hC⟩ ⟨_, Nat.mod_lt r.val hj0⟩ M r (partner 8 s r) h₀ h₁

omit hlo hhi in
/-- The network's 36 stages, one after the other. -/
theorem stages_eq (f : Nat → Nat → Network (2 ^ 8)) :
    ((List.range 8).flatMap fun l => (List.range (l + 1)).reverse.flatMap fun s => f l s)
      = f 0 0 ++ (f 1 1 ++ (f 1 0 ++ (f 2 2 ++ (f 2 1 ++ (f 2 0 ++ (f 3 3 ++ (f 3 2 ++ (f 3 1 ++ (f 3 0 ++ (f 4 4 ++ (f 4 3 ++ (f 4 2 ++
        (f 4 1 ++ (f 4 0 ++ (f 5 5 ++ (f 5 4 ++ (f 5 3 ++ (f 5 2 ++ (f 5 1 ++ (f 5 0 ++ (f 6 6 ++ (f 6 5 ++ (f 6 4 ++ (f 6 3 ++ (f 6 2 ++
        (f 6 1 ++ (f 6 0 ++ (f 7 7 ++ (f 7 6 ++ (f 7 5 ++ (f 7 4 ++ (f 7 3 ++ (f 7 2 ++ (f 7 1 ++ f 7 0)))))))))))))))))))))))))))))))))) := by
  simp [List.range_succ]

/-- The 36 stages sort each lane as the network does. -/
theorem sort_col (X : Rows.Idx → α) (M : Fin 1000) :
    col key (sortRows lo hi X) M = Network.apply (sortNet 8 false) (col key X M) := by
  rw [show sortNet 8 false = _ from stages_eq net]
  simp only [Network.apply_append]
  unfold sortRows
  dsimp only
  iterate 8
    apply asc_step hlo hhi
    · decide
    · rfl
  iterate 28
    apply both_step hlo hhi
    · decide
    · rfl
    · rfl
  rfl

end

end Cert.Bitonic
-- ==== Proof.Carry.lean ====
/-
  VALUES THAT FOLLOW THEIR KEYS. If at every place of a lane the value is a function of the key, a stage that carries values with
  keys leaves it so: so it is after all 36 stages, and the values then stand where their keys were sorted to.
-/
module

public import proofs.«01_k».proof.Proof.Place
public import Mathlib.Tactic.Ring

@[expose] public section

namespace Cert.Bitonic

open Idealize.ShloMosaic Idealize.ShloMosaic.ValueIdx

variable {γ : Type}

/-- Every row is the first or the second of a pair of the layout [q, 2, g, 2, j]. -/
theorem pair_of_row {q g j : Nat} (h : q * 2 * g * 2 * j = 256) (r : Fin 256) :
    ∃ (A : Fin q) (D : Fin 2) (C : Fin g) (o : Fin j) (r₀ r₁ : Fin 256),
      r₀.val = (((A.val * 2 + D.val) * g + C.val) * 2 + 0) * j + o.val ∧ r₁.val = (((A.val * 2 + D.val) * g + C.val) * 2 + 1) * j + o.val
        ∧ (r = r₀ ∨ r = r₁) := by
  have hj0 : 0 < j := Nat.pos_of_ne_zero fun e => by subst e; simp at h
  have hg0 : 0 < g := Nat.pos_of_ne_zero fun e => by subst e; simp at h
  have e1 := Nat.div_add_mod r.val j
  have e3 := Nat.div_add_mod (r.val / j / 2) g
  have lt : r.val / j / 2 < q * 2 * g := by
    rw [Nat.div_div_eq_div_mul]
    refine Nat.div_lt_of_lt_mul (lt_of_lt_of_eq r.isLt ?_)
    rw [← h]; ring
  have hA : r.val / j / 2 / g / 2 < q := by
    simp only [Nat.div_div_eq_div_mul]
    refine Nat.div_lt_of_lt_mul (lt_of_lt_of_eq r.isLt ?_)
    rw [← h]; ring
  have base : (r.val / j / 2 / g / 2 * 2 + r.val / j / 2 / g % 2) * g + r.val / j / 2 % g = r.val / j / 2 := by
    rw [show r.val / j / 2 / g / 2 * 2 + r.val / j / 2 / g % 2 = r.val / j / 2 / g by omega, Nat.mul_comm]; exact e3
  have bound (b : Nat) (hb : b < 2) : (r.val / j / 2 * 2 + b) * j + r.val % j < 256 := by
    have h1 : (r.val / j / 2 * 2 + b) + 1 ≤ q * 2 * g * 2 := by omega
    have h2 := Nat.mul_le_mul_right j h1
    have h3 := Nat.mod_lt r.val hj0
    rw [h, Nat.add_mul] at h2
    omega
  refine ⟨⟨_, hA⟩, ⟨_, Nat.mod_lt (r.val / j / 2 / g) (by decide : 0 < 2)⟩, ⟨_, Nat.mod_lt (r.val / j / 2) hg0⟩,
    ⟨_, Nat.mod_lt r.val hj0⟩, ⟨_, bound 0 (by decide)⟩, ⟨_, bound 1 (by decide)⟩, ?_, ?_, ?_⟩
  · show _ = ((_ * g + _) * 2 + 0) * j + _
    rw [base]
  · show _ = ((_ * g + _) * 2 + 1) * j + _
    rw [base]
  · rcases Nat.mod_two_eq_zero_or_one (r.val / j) with e | e
    · left
      apply Fin.ext
      show r.val = (r.val / j / 2 * 2 + 0) * j + r.val % j
      rw [show r.val / j / 2 * 2 + 0 = r.val / j by omega, Nat.mul_comm]; exact e1.symm
    · right
      apply Fin.ext
      show r.val = (r.val / j / 2 * 2 + 1) * j + r.val % j
      rw [show r.val / j / 2 * 2 + 1 = r.val / j by omega, Nat.mul_comm]; exact e1.symm

/-- Selecting by a signed comparison, at an index. -/
theorem select_slt {s : Shape} (a b : s.Idx → BitVec 32) (x y : s.Idx → γ) (i : s.Idx) :
    select (cmpi .slt a b) x y i = if (a i).slt (b i) then x i else y i := by
  show (if BitVec.ofBool ((a i).slt (b i)) = 1#1 then x i else y i) = _
  cases (a i).slt (b i) <;> simp

/-- Two words neither of which is less are the same. -/
theorem eq_of_not_slt {a b : BitVec 32} (h₁ : a.slt b = false) (h₂ : b.slt a = false) : a = b := by
  apply BitVec.eq_of_toInt_eq
  rw [BitVec.slt] at h₁ h₂
  have h₁ := of_decide_eq_false h₁
  have h₂ := of_decide_eq_false h₂
  omega

/-- The greater of two words is not the lesser. -/
theorem slt_asymm {a b : BitVec 32} (h₁ : a.slt b = true) (h₂ : b.slt a = true) : False := by
  rw [BitVec.slt] at h₁ h₂
  have h₁ := of_decide_eq_true h₁
  have h₂ := of_decide_eq_true h₂
  omega

/-- The value kept with the lesser of two keys is the lesser key's. -/
theorem keep_min (f : BitVec 32 → γ) (a b : BitVec 32) : (if a.slt b then f a else f b) = f (IntOp.minsi a b) := by
  unfold IntOp.minsi
  split <;> rfl

/-- The value kept with the greater of two keys is the greater key's. -/
theorem keep_max' (f : BitVec 32 → γ) (a b : BitVec 32) : (if b.slt a then f a else f b) = f (IntOp.maxsi a b) := by
  unfold IntOp.maxsi
  split <;> rfl

/-- The lesser key's value with the comparison the other way round. -/
theorem keep_min' (f : BitVec 32 → γ) (a b : BitVec 32) : (if b.slt a then f b else f a) = f (IntOp.minsi a b) := by
  rw [← keep_min f]
  cases h₁ : a.slt b <;> cases h₂ : b.slt a <;> simp
  · rw [eq_of_not_slt h₁ h₂]
  · exact (slt_asymm h₁ h₂).elim

/-- The greater key's value with the comparison the other way round. -/
theorem keep_max (f : BitVec 32 → γ) (a b : BitVec 32) : (if a.slt b then f b else f a) = f (IntOp.maxsi a b) := by
  rw [← keep_max' f]
  cases h₁ : a.slt b <;> cases h₂ : b.slt a <;> simp
  · rw [eq_of_not_slt h₁ h₂]
  · exact (slt_asymm h₁ h₂).elim

/-- The values are a function of the keys, lane by lane. -/
def Follows (f : Fin 1000 → BitVec 32 → γ) (K : Rows.Idx → BitVec 32) (V : Rows.Idx → γ) : Prop :=
  ∀ (r : Fin 256) (M : Fin 1000), V (ix2 r M) = f M (K (ix2 r M))

variable {f : Fin 1000 → BitVec 32 → γ} {K : Rows.Idx → BitVec 32} {V : Rows.Idx → γ}

/-- A stage of two blocks keeps values with their keys. -/
theorem follows_both {q g j : Nat} {h : q * 2 * g * 2 * j = 256} (H : Follows f K V) :
    Follows f (bothKey q g j h K) (bothVal q g j h K V) := by
  intro r M
  obtain ⟨A, D, C, o, r₀, r₁, h₀, h₁, hr⟩ := pair_of_row h r
  unfold bothKey bothVal both
  match D, h₀, h₁ with
  | ⟨0, hD⟩, h₀, h₁ =>
    rcases hr with rfl | rfl
    · simp only [glue_apply q g j h _ _ A ⟨0, hD⟩ C 0 o M r h₀, join_apply, if_true, Fin.val_zero, Fin.val_one, one_ne_zero, if_false,
        select_slt, minsi, maxsi, pick_cut q 2 g j 0 0 (by decide) (by decide) h _ A C o M r h₀,
        pick_cut q 2 g j 0 1 (by decide) (by decide) h _ A C o M r₁ h₁, H r M, H r₁ M, keep_min (f M)]
    · simp only [glue_apply q g j h _ _ A ⟨0, hD⟩ C 1 o M r h₁, join_apply, if_true, Fin.val_zero, Fin.val_one, one_ne_zero, if_false,
        select_slt, minsi, maxsi, pick_cut q 2 g j 0 0 (by decide) (by decide) h _ A C o M r₀ h₀,
        pick_cut q 2 g j 0 1 (by decide) (by decide) h _ A C o M r h₁, H r M, H r₀ M, keep_max (f M)]
  | ⟨1, hD⟩, h₀, h₁ =>
    rcases hr with rfl | rfl
    · simp only [glue_apply q g j h _ _ A ⟨1, hD⟩ C 0 o M r h₀, join_apply, if_true, Fin.val_zero, Fin.val_one, one_ne_zero, if_false,
        select_slt, minsi, maxsi, pick_cut q 2 g j 1 0 (by decide) (by decide) h _ A C o M r h₀,
        pick_cut q 2 g j 1 1 (by decide) (by decide) h _ A C o M r₁ h₁, H r M, H r₁ M, keep_max' (f M)]
    · simp only [glue_apply q g j h _ _ A ⟨1, hD⟩ C 1 o M r h₁, join_apply, if_true, Fin.val_zero, Fin.val_one, one_ne_zero, if_false,
        select_slt, minsi, maxsi, pick_cut q 2 g j 1 0 (by decide) (by decide) h _ A C o M r₀ h₀,
        pick_cut q 2 g j 1 1 (by decide) (by decide) h _ A C o M r h₁, H r M, H r₀ M, keep_min' (f M)]

/-- A stage of one block keeps values with their keys. -/
theorem follows_asc {g j : Nat} {h : 1 * 1 * g * 2 * j = 256} (H : Follows f K V) :
    Follows f (ascKey g j h K) (ascVal g j h K V) := by
  intro r M
  have hj0 : 0 < j := Nat.pos_of_ne_zero fun e => by subst e; simp at h
  have e1 := Nat.div_add_mod r.val j
  have hC : r.val / j / 2 < g := by
    rw [Nat.div_div_eq_div_mul]
    refine Nat.div_lt_of_lt_mul (lt_of_lt_of_eq r.isLt ?_)
    rw [← h]; ring
  have bound (b : Nat) (hb : b < 2) : (r.val / j / 2 * 2 + b) * j + r.val % j < 256 := by
    have h1 : (r.val / j / 2 * 2 + b) + 1 ≤ 1 * 1 * g * 2 := by omega
    have h2 := Nat.mul_le_mul_right j h1
    have h3 := Nat.mod_lt r.val hj0
    rw [h, Nat.add_mul] at h2
    omega
  have h₀ : (⟨_, bound 0 (by decide)⟩ : Fin 256).val = (r.val / j / 2 * 2 + 0) * j + r.val % j := rfl
  have h₁ : (⟨_, bound 1 (by decide)⟩ : Fin 256).val = (r.val / j / 2 * 2 + 1) * j + r.val % j := rfl
  have hr : r = ⟨_, bound 0 (by decide)⟩ ∨ r = ⟨_, bound 1 (by decide)⟩ := by
    rcases Nat.mod_two_eq_zero_or_one (r.val / j) with e | e
    · left
      apply Fin.ext
      show r.val = (r.val / j / 2 * 2 + 0) * j + r.val % j
      rw [show r.val / j / 2 * 2 + 0 = r.val / j by omega, Nat.mul_comm]; exact e1.symm
    · right
      apply Fin.ext
      show r.val = (r.val / j / 2 * 2 + 1) * j + r.val % j
      rw [show r.val / j / 2 * 2 + 1 = r.val / j by omega, Nat.mul_comm]; exact e1.symm
  generalize (⟨_, bound 0 (by decide)⟩ : Fin 256) = r₀ at *
  generalize (⟨_, bound 1 (by decide)⟩ : Fin 256) = r₁ at *
  generalize ho : (⟨r.val % j, Nat.mod_lt r.val hj0⟩ : Fin j) = o at *
  generalize hc : (⟨r.val / j / 2, hC⟩ : Fin g) = C at *
  have ho' : r.val % j = o.val := congrArg Fin.val ho
  have hc' : r.val / j / 2 = C.val := congrArg Fin.val hc
  rw [ho', hc'] at h₀ h₁
  have p₀ : r₀.val = ((((0 : Fin 1).val * 1 + 0) * g + C.val) * 2 + 0) * j + o.val := by simpa using h₀
  have p₁ : r₁.val = ((((0 : Fin 1).val * 1 + 0) * g + C.val) * 2 + 1) * j + o.val := by simpa using h₁
  unfold ascKey ascVal asc
  have pk {δ : Type} (X : Rows.Idx → δ) := pick_cut 1 1 g j 0 0 (by decide) (by decide) h X 0 C o M r₀ p₀
  have pk' {δ : Type} (X : Rows.Idx → δ) := pick_cut 1 1 g j 0 1 (by decide) (by decide) h X 0 C o M r₁ p₁
  rcases hr with rfl | rfl
  · simp only [whole_apply g j h _ C 0 o M r h₀, join_apply, if_true, Fin.val_zero, Fin.val_one, one_ne_zero, if_false,
      select_slt, minsi, maxsi, pk, pk', H r M, H r₁ M, keep_min (f M)]
  · simp only [whole_apply g j h _ C 1 o M r h₁, join_apply, if_true, Fin.val_zero, Fin.val_one, one_ne_zero, if_false,
      select_slt, minsi, maxsi, pk, pk', H r M, H r₀ M, keep_max (f M)]

/-- After the 36 stages each value stands at its key's place. -/
theorem follows_sort (H : Follows f K V) :
    Follows f (sortRows (fun x y => minsi x y) (fun x y => maxsi x y) K) (sortVals K V) := by
  unfold sortRows sortVals
  dsimp only
  iterate 8 apply follows_asc
  iterate 28 apply follows_both
  exact H

end Cert.Bitonic
-- ==== Proof.Order.lean ====
/-
  ONE LANE'S ORDER. The network's result on 256 positions, of which the last 56 hold the greatest key, is any rearrangement of the
  first 200 along which the keys ascend; and the reference's sort of a sort's positions is the inverse rearrangement.
-/
module

public import Idealize.ShloMosaic.Lib.SortNet.Sorts
public import Idealize.ShloMosaic.Lib.SortFacts
public import Idealize.ShloMosaic.Lib.PlanTiles.StableSort
public import Idealize.ShloMosaic.Lib.SortNet.HostSort

@[expose] public section

namespace Cert.Order

open Idealize.ShloMosaic Idealize.ShloMosaic.SortNet

variable {α : Type} [LinearOrder α]

/-- Two rearrangements along which the entries ascend hold the same entries. -/
theorem eq_of_monotone {n : Nat} (v : Fin n → α) (σ τ : Equiv.Perm (Fin n)) (hσ : Monotone (v ∘ σ)) (hτ : Monotone (v ∘ τ)) :
    v ∘ σ = v ∘ τ := by
  have asc (w : Fin n → α) (h : Monotone w) : (List.ofFn w).Pairwise (· ≤ ·) := by
    rw [List.pairwise_ofFn]
    exact fun i j hij => h (le_of_lt hij)
  exact List.ofFn_injective (List.Perm.eq_of_pairwise (le := (· ≤ ·)) (fun _ _ _ _ h₁ h₂ => le_antisymm h₁ h₂) (asc _ hσ) (asc _ hτ)
    ((Equiv.Perm.ofFn_comp_perm σ v).trans (Equiv.Perm.ofFn_comp_perm τ v).symm))

/-- A rearrangement of the first 200 positions, the others left in place. -/
def ext (σ : Fin 200 → Fin 200) (r : Fin (2 ^ 8)) : Fin (2 ^ 8) :=
  if h : r.val < 200 then ⟨(σ ⟨r.val, h⟩).val, lt_trans (σ ⟨r.val, h⟩).isLt (by decide)⟩ else r

theorem ext_low (σ : Fin 200 → Fin 200) (r : Fin (2 ^ 8)) (h : r.val < 200) : (ext σ r).val = (σ ⟨r.val, h⟩).val := by
  unfold ext; rw [dif_pos h]

theorem ext_high (σ : Fin 200 → Fin 200) (r : Fin (2 ^ 8)) (h : ¬ r.val < 200) : ext σ r = r := by
  unfold ext; rw [dif_neg h]

theorem ext_injective (σ : Fin 200 → Fin 200) (hσ : Function.Injective σ) : Function.Injective (ext σ) := by
  intro a b e
  have e := congrArg Fin.val e
  by_cases ha : a.val < 200 <;> by_cases hb : b.val < 200
  · rw [ext_low σ a ha, ext_low σ b hb] at e
    have := congrArg Fin.val (hσ (Fin.ext e))
    exact Fin.ext this
  · rw [ext_low σ a ha, ext_high σ b hb] at e
    have := (σ ⟨a.val, ha⟩).isLt
    omega
  · rw [ext_high σ a ha, ext_low σ b hb] at e
    have := (σ ⟨b.val, hb⟩).isLt
    omega
  · rw [ext_high σ a ha, ext_high σ b hb] at e
    exact Fin.ext e

/-- THE NETWORK, READ: where the keys ascend along a rearrangement of the first 200 positions and no key exceeds the others', the
    network's result is that rearrangement. -/
theorem network_read (v : Fin (2 ^ 8) → α) (σ : Fin 200 → Fin 200) (hσ : Function.Injective σ)
    (hlow : ∀ a b : Fin (2 ^ 8), ∀ (ha : a.val < 200) (hb : b.val < 200), a < b → v (ext σ a) ≤ v (ext σ b))
    (hhigh : ∀ a b : Fin (2 ^ 8), ¬ b.val < 200 → v a ≤ v b) :
    Network.apply (sortNet 8 false) v = v ∘ ext σ := by
  obtain ⟨τ, hτ⟩ := Network.exists_perm (sortNet 8 false) v
  have hm := sortNet_apply_monotone 8 v
  rw [hτ] at hm ⊢
  have hb : Function.Bijective (ext σ) := Finite.injective_iff_bijective.mp (ext_injective σ hσ)
  refine eq_of_monotone v τ (Equiv.ofBijective (ext σ) hb) hm fun a b hab => ?_
  show v (ext σ a) ≤ v (ext σ b)
  rcases hab.eq_or_lt with rfl | hab
  · exact le_refl _
  · by_cases h : b.val < 200
    · exact hlow a b (lt_trans hab h) h hab
    · rw [ext_high σ b h]
      exact hhigh _ _ h

/-- The stable sort by ascending entries leaves the entries ascending. -/
theorem sorted_le {n : Nat} (v : Fin n → α) (i j : Fin n) (hij : i < j) :
    v (sortedFrom (fun a b => decide (v a < v b)) i) ≤ v (sortedFrom (fun a b => decide (v a < v b)) j) := by
  have h := sortedFrom_noInversion (fun a b => decide (v a < v b)) (fun a b => decide (v a < v b))
    (fun a b h => decide_eq_false (not_lt.mpr (le_of_lt (of_decide_eq_true h)))) (fun _ _ h => h)
    (fun a b c h₁ h₂ => decide_eq_false (not_lt.mpr (le_trans (not_lt.mp (of_decide_eq_false h₂)) (not_lt.mp (of_decide_eq_false h₁)))))
    i j hij
  exact not_lt.mp (of_decide_eq_false h)

/-- The stable sort by ascending numbers keeps equal numbers in their places' order. -/
theorem sorted_lex {n : Nat} (B : Nat) (v : Fin n → Nat) (hv : ∀ a, v a ≤ B) (i j : Fin n) (hij : i < j) :
    v (sortedFrom (fun a b => decide (v a < v b)) i) < v (sortedFrom (fun a b => decide (v a < v b)) j)
      ∨ (v (sortedFrom (fun a b => decide (v a < v b)) i) = v (sortedFrom (fun a b => decide (v a < v b)) j)
        ∧ sortedFrom (fun a b => decide (v a < v b)) i < sortedFrom (fun a b => decide (v a < v b)) j) := by
  have e : (fun a b => decide (v a < v b)) = fun a b : Fin n => decide ((fun c => B - v c) b < (fun c => B - v c) a) := by
    funext a b
    have h₁ := hv a
    have h₂ := hv b
    exact decide_eq_decide.mpr ⟨fun h => by dsimp only; omega, fun h => by dsimp only at h; omega⟩
  have h := List.pairwise_iff_get.mp (PlanTiles.pairwise_stableSort_lex (fun c => B - v c) (· < ·) (List.finRange n) (List.pairwise_lt_finRange n))
  rw [← e] at h
  have h := h (i.cast (length_sortPositions n (fun a b => decide (v a < v b))).symm)
    (j.cast (length_sortPositions n (fun a b => decide (v a < v b))).symm) (by rw [Fin.lt_def]; exact hij)
  change PlanTiles.Lex (fun c => B - v c) (· < ·) (sortedFrom (fun a b => decide (v a < v b)) i) (sortedFrom (fun a b => decide (v a < v b)) j) at h
  have h₁ := hv (sortedFrom (fun a b => decide (v a < v b)) i)
  have h₂ := hv (sortedFrom (fun a b => decide (v a < v b)) j)
  rcases h with h | ⟨h, hp⟩
  · left; dsimp only at h; omega
  · right; dsimp only at h; exact ⟨by omega, hp⟩

/-- THE SORT OF A SORT'S POSITIONS IS ITS INVERSE: at the place of a position stands the place it went to. -/
theorem sorted_inverse {n : Nat} (π : Fin n → Fin n) (hπ : Function.Injective π) (m : Fin n) :
    sortedFrom (fun a b => decide (π a < π b)) (π m) = m := by
  have hi := sortedFrom_injective (fun a b => decide (π a < π b))
  have hm : Monotone fun k => π (sortedFrom (fun a b => decide (π a < π b)) k) := by
    intro i j hij
    rcases hij.eq_or_lt with rfl | hij
    · exact le_refl _
    · exact sorted_le π i j hij
  have hb : Function.Bijective fun k => π (sortedFrom (fun a b => decide (π a < π b)) k) :=
    Finite.injective_iff_bijective.mp (hπ.comp hi)
  have e := eq_of_monotone (fun k : Fin n => k) (Equiv.ofBijective _ hb) (Equiv.refl _) hm fun _ _ h => h
  exact hπ (congrFun e (π m))

end Cert.Order
-- ==== Proof.Lane.lean ====
/-
  WHAT THE BODY WRITES, LANE BY LANE, over the extended reals: with table entries that are whole numbers over 2 ^ 23, sample s of lane n
  is the lane's sorted sample at the rank of gathered entry s.
-/
module

public import proofs.«01_k».proof.Proof.Column
public import proofs.«01_k».proof.Proof.Carry
public import proofs.«01_k».proof.Proof.Order
public import proofs.«01_k».proof.Proof.Grid
public import Idealize.ShloMosaic.Lib.ValueLayout

@[expose] public section

noncomputable section

namespace Cert.KernelIdeal.Lane

open Idealize.ShloMosaic Idealize.ShloMosaic.ValueIdx Idealize.ShloMosaic.SortNet
open Cert.KernelIdeal.Gen Cert.KernelIdeal.Body Cert.KernelIdeal.Gather Cert.Bitonic Cert.Order

/-- The key of a row: a number and the row's place below it. -/
theorem key_word (n r : Nat) (hn : n < 8388608) (hr : r < 200) :
    IntOp.addi (IntOp.shli .vector (BitVec.ofNat 32 n) 8#32) (BitVec.ofNat 32 r) = BitVec.ofNat 32 (n * 256 + r) := by
  apply BitVec.eq_of_toNat_eq
  simp [IntOp.addi, IntOp.shli, BitVec.toNat_shiftLeft, Nat.shiftLeft_eq]

/-- A small word, signed, is its number. -/
theorem toInt_small (k : Nat) (hk : k < 2147483648) : (BitVec.ofNat 32 k).toInt = (k : Int) := by
  rw [BitVec.toInt_eq_toNat_cond, BitVec.toNat_ofNat, Nat.mod_eq_of_lt (by omega), if_pos (by omega)]

/-- The integers' least and greatest. -/
theorem minsi_toInt {s : Shape} (x y : s.Idx → BitVec 32) (i : s.Idx) : (minsi x y i).toInt = min (x i).toInt (y i).toInt := by
  show (IntOp.minsi (x i) (y i)).toInt = _
  unfold IntOp.minsi BitVec.slt
  by_cases h : (x i).toInt < (y i).toInt
  · rw [if_pos (decide_eq_true h), min_eq_left (le_of_lt h)]
  · rw [if_neg (by simpa using h), min_eq_right (not_lt.mp h)]
theorem maxsi_toInt {s : Shape} (x y : s.Idx → BitVec 32) (i : s.Idx) : (maxsi x y i).toInt = max (x i).toInt (y i).toInt := by
  show (IntOp.maxsi (x i) (y i)).toInt = _
  unfold IntOp.maxsi BitVec.slt
  by_cases h : (y i).toInt < (x i).toInt
  · rw [if_pos (decide_eq_true h), max_eq_left (le_of_lt h)]
  · rw [if_neg (by simpa using h), max_eq_right (not_lt.mp h)]

/-- The sort of words, read on a lane along which a rearrangement of the first 200 rows ascends. -/
theorem words_read (K : Rows.Idx → BitVec 32) (M : Fin 1000) (σ : Fin 200 → Fin 200) (hσ : Function.Injective σ)
    (hlow : ∀ a b : Fin (2 ^ 8), ∀ (ha : a.val < 200) (hb : b.val < 200), a < b →
      col BitVec.toInt K M (ext σ a) ≤ col BitVec.toInt K M (ext σ b))
    (hhigh : ∀ a b : Fin (2 ^ 8), ¬ b.val < 200 → col BitVec.toInt K M a ≤ col BitVec.toInt K M b) (r : Fin (2 ^ 8)) :
    sortRows (fun a b => minsi a b) (fun a b => maxsi a b) K (ix2 (n0 := 256) r M) = K (ix2 (n0 := 256) (ext σ r) M) := by
  have h := sort_col (key := BitVec.toInt) (lo := fun a b => minsi a b) (hi := fun a b => maxsi a b) minsi_toInt maxsi_toInt K M
  rw [network_read _ σ hσ hlow hhigh] at h
  exact BitVec.eq_of_toInt_eq (congrFun h r)

/-- The padded samples: the lane's own in the first 200 rows. -/
theorem padX_low (x : FVec Ideal S1x1000x200 .f32) (r : Fin 256) (M : Fin 1000) (hr : r.val < 200) :
    padX x (ix2 r M) = x (ix3 (0 : Fin 1) M (⟨r.val, hr⟩ : Fin 200)) := by
  unfold padX
  rw [concatenate_pair_apply_left (t := S256x1000) (s₁ := S200x1000) (s₂ := S56x1000) 0 _ _ _ _ rfl (ix2 (⟨r.val, hr⟩ : Fin 200) M)
    (fun x => match x with | ⟨0, _⟩ => rfl | ⟨1, _⟩ => rfl)]
  rw [transpose_ix2_apply, shapeCast_1ab_ab_apply]

/-- The padding is plus infinity. -/
theorem padX_high (x : FVec Ideal S1x1000x200 .f32) (r : Fin 256) (M : Fin 1000) (hr : ¬ r.val < 200) : padX x (ix2 r M) = (⊤ : EReal) := by
  unfold padX
  have h56 : r.val - 200 < 56 := by omega
  refine (concatenate_pair_apply_right (t := S256x1000) (s₁ := S200x1000) (s₂ := S56x1000) 0 _ _
    concatenates_S200x1000_S56x1000_S256x1000_d0 (ix2 r M) rfl rfl (ix2 (⟨r.val - 200, h56⟩ : Fin 56) M)
    (fun x hx => match x, hx with | ⟨0, _⟩, hx => absurd rfl hx | ⟨1, _⟩, _ => rfl) (Nat.sub_add_cancel (not_lt.mp hr))).trans ?_
  show Ideal.ofBits .f32 0x7F800000#32 = ⊤
  simp [Ideal.ofBits, Ideal.ieee]

section
variable (x : FVec Ideal S1x1000x200 .f32) (y : FVec Ideal S256x1000 .f32) (num : Fin 1000 → Fin 200 → Nat)

/-- Where the reference's sort of a lane's samples takes each from. -/
def fromX (M : Fin 1000) : Fin 200 → Fin 200 :=
  sortedFrom fun a b => decide ((x (ix3 (0 : Fin 1) M a) : EReal) < x (ix3 (0 : Fin 1) M b))

/-- Where the sort of a lane's numbers takes each from. -/
def fromN (M : Fin 1000) : Fin 200 → Fin 200 := sortedFrom fun a b => decide (num M a < num M b)

/-- The rank of each of a lane's numbers. -/
def rank (M : Fin 1000) : Fin 200 → Fin 200 := sortedFrom fun a b => decide (fromN num M a < fromN num M b)

/-- The padded samples at a rearranged row. -/
theorem padX_ext (σ : Fin 200 → Fin 200) (a : Fin (2 ^ 8)) (ha : a.val < 200) (M : Fin 1000) :
    padX x (ix2 (n0 := 256) (ext σ a) M) = x (ix3 (0 : Fin 1) M (σ ⟨a.val, ha⟩)) := by
  have e := ext_low σ a ha
  have l : (ext σ a).val < 200 := by rw [e]; exact (σ ⟨a.val, ha⟩).isLt
  exact (padX_low x (ext σ a) M l).trans (congrArg (fun s => x (ix3 (0 : Fin 1) M s)) (Fin.ext e))

/-- The sorted samples, read. -/
theorem sortedX_apply (r : Fin 256) (M : Fin 1000) :
    sortedX x (ix2 r M) = if h : r.val < 200 then x (ix3 (0 : Fin 1) M (fromX x M ⟨r.val, h⟩)) else (⊤ : EReal) := by
  have h := sort_col (α := EReal) (key := fun e => e) (lo := fun a b => (minimumf a b : FVec Ideal _ .f32)) (hi := fun a b => (maximumf a b : FVec Ideal _ .f32))
    (fun _ _ _ => rfl) (fun _ _ _ => rfl) (padX x) M
  rw [network_read _ (fromX x M) (sortedFrom_injective _) (fun a b ha hb hab => ?_) (fun a b hb => ?_)] at h
  · have h : sortedX x (ix2 r M) = padX x (ix2 (n0 := 256) (ext (fromX x M) r) M) := congrFun h r
    rw [h]
    by_cases hr : r.val < 200
    · rw [dif_pos hr]; exact padX_ext x _ r hr M
    · rw [dif_neg hr, ext_high _ r hr, padX_high x r M hr]
  · show padX x (ix2 (n0 := 256) (ext (fromX x M) a) M) ≤ padX x (ix2 (n0 := 256) (ext (fromX x M) b) M)
    rw [padX_ext x _ a ha M, padX_ext x _ b hb M]
    exact sorted_le (fun s : Fin 200 => (x (ix3 (0 : Fin 1) M s) : EReal)) ⟨a.val, ha⟩ ⟨b.val, hb⟩ hab
  · show padX x (ix2 (n0 := 256) a M) ≤ padX x (ix2 (n0 := 256) b M)
    rw [padX_high x b M hb]
    exact le_top

variable (hnum : ∀ M s, num M s < 8388608)
  (hy : ∀ (M : Fin 1000) (s : Fin 200), (y (ix2 (⟨s.val, lt_trans s.isLt (by decide)⟩ : Fin 256) M) : EReal) = (((num M s : ℝ) / 8388608 : ℝ) : EReal))
include hnum hy

/-- The keys, read. -/
theorem keys_apply (r : Fin 256) (M : Fin 1000) :
    keys y (ix2 r M) = BitVec.ofNat 32 (if h : r.val < 200 then num M ⟨r.val, h⟩ * 256 + r.val else 2147483647) := by
  show (if BitVec.ofBool (BitVec.slt (rowNo (ix2 r M)) 200#32) = 1 then
      IntOp.addi (IntOp.shli .vector (Ideal.fptosi 32 ((y (ix2 r M) : EReal) * Ideal.ofBits .f32 0x4B000000#32)) 8#32) (rowNo (ix2 r M)) else 2147483647#32) = _
  rw [rowNo_slt, rowNo_apply]
  show (if BitVec.ofBool (decide (r.val < 200)) = 1 then
      IntOp.addi (IntOp.shli .vector (Ideal.fptosi 32 ((y (ix2 r M) : EReal) * Ideal.ofBits .f32 0x4B000000#32)) 8#32) (BitVec.ofNat 32 r.val) else 2147483647#32) = _
  by_cases h : r.val < 200
  · rw [dif_pos h, decide_eq_true h, if_pos (show BitVec.ofBool true = 1 from rfl)]
    have e := hy M ⟨r.val, h⟩
    rw [show (y (ix2 r M) : EReal) = _ from e, Cert.Grid.num_word _ (hnum M _), key_word _ _ (hnum M _) h]
  · rw [dif_neg h, decide_eq_false h, if_neg (by decide)]

/-- The keys as integers. -/
theorem keys_col (r : Fin (2 ^ 8)) (M : Fin 1000) :
    col BitVec.toInt (keys y) M r = if h : r.val < 200 then ((num M ⟨r.val, h⟩ * 256 + r.val : Nat) : Int) else 2147483647 := by
  show (keys y (ix2 (n0 := 256) r M)).toInt = _
  rw [keys_apply y num hnum hy]
  by_cases h : r.val < 200
  · have := hnum M ⟨r.val, h⟩
    rw [dif_pos h, dif_pos h, toInt_small _ (by omega)]
  · rw [dif_neg h, dif_neg h, toInt_small _ (by omega)]; rfl

/-- The order, read: the place each of the sorted numbers came from. -/
theorem order_apply (r : Fin 256) (M : Fin 1000) :
    order y (ix2 r M) = BitVec.ofNat 32 (if h : r.val < 200 then (fromN num M ⟨r.val, h⟩).val else 255) := by
  show IntOp.andi (sortRows (fun a b => minsi a b) (fun a b => maxsi a b) (keys y) (ix2 r M)) 255#32 = _
  have e := words_read (keys y) M (fromN num M) (sortedFrom_injective _) (fun a b ha hb hab => ?_) (fun a b hb => ?_) r
  · rw [e, keys_apply y num hnum hy]
    by_cases h : r.val < 200
    · have el := ext_low (fromN num M) r h
      have lt : (ext (fromN num M) r).val < 200 := by rw [el]; exact (fromN num M ⟨r.val, h⟩).isLt
      rw [dif_pos h, dif_pos lt, show (⟨_, lt⟩ : Fin 200) = fromN num M ⟨r.val, h⟩ from Fin.ext el, el]
      have hn := hnum M (fromN num M ⟨r.val, h⟩)
      have hl := (fromN num M ⟨r.val, h⟩).isLt
      apply BitVec.eq_of_toNat_eq
      simp only [IntOp.andi, BitVec.toNat_and, BitVec.toNat_ofNat]
      rw [show 255 % 2 ^ 32 = 2 ^ 8 - 1 by norm_num, Nat.and_two_pow_sub_one_eq_mod]
      omega
    · rw [ext_high _ r h, dif_neg h, dif_neg h]; decide
  · have ea := ext_low (fromN num M) a ha
    have eb := ext_low (fromN num M) b hb
    have la : (ext (fromN num M) a).val < 200 := by rw [ea]; exact (fromN num M ⟨a.val, ha⟩).isLt
    have lb : (ext (fromN num M) b).val < 200 := by rw [eb]; exact (fromN num M ⟨b.val, hb⟩).isLt
    rw [keys_col y num hnum hy, keys_col y num hnum hy, dif_pos la, dif_pos lb]
    have fa : (⟨_, la⟩ : Fin 200) = fromN num M ⟨a.val, ha⟩ := Fin.ext ea
    have fb : (⟨_, lb⟩ : Fin 200) = fromN num M ⟨b.val, hb⟩ := Fin.ext eb
    rw [fa, fb, ea, eb]
    have h := sorted_lex 8388608 (num M) (fun s => le_of_lt (hnum M s)) ⟨a.val, ha⟩ ⟨b.val, hb⟩ hab
    change num M (fromN num M ⟨a.val, ha⟩) < num M (fromN num M ⟨b.val, hb⟩)
      ∨ (num M (fromN num M ⟨a.val, ha⟩) = num M (fromN num M ⟨b.val, hb⟩) ∧ fromN num M ⟨a.val, ha⟩ < fromN num M ⟨b.val, hb⟩) at h
    have l₁ := (fromN num M ⟨a.val, ha⟩).isLt
    have l₂ := (fromN num M ⟨b.val, hb⟩).isLt
    rw [Fin.lt_def] at h
    omega
  · rw [keys_col y num hnum hy a, keys_col y num hnum hy b, dif_neg hb]
    by_cases ha : a.val < 200
    · have := hnum M ⟨a.val, ha⟩
      rw [dif_pos ha]; omega
    · rw [dif_neg ha]

/-- The order sorted again holds each row's own number. -/
theorem order_sorted (r : Fin 256) (M : Fin 1000) (hr : r.val < 200) :
    sortRows (fun a b => minsi a b) (fun a b => maxsi a b) (order y) (ix2 r M) = BitVec.ofNat 32 r.val := by
  have hπ : Function.Injective (fromN num M) := sortedFrom_injective _
  have hρ : Function.Injective (rank num M) := sortedFrom_injective _
  have hi (k : Fin 200) : fromN num M (rank num M k) = k := by
    obtain ⟨m, rfl⟩ := (Finite.injective_iff_surjective.mp hπ) k
    exact congrArg _ (sorted_inverse (fromN num M) hπ m)
  have oc (a : Fin (2 ^ 8)) (ha : a.val < 200) : (order y (ix2 (n0 := 256) (ext (rank num M) a) M)) = BitVec.ofNat 32 a.val := by
    have ea := ext_low (rank num M) a ha
    have la : (ext (rank num M) a).val < 200 := by rw [ea]; exact (rank num M ⟨a.val, ha⟩).isLt
    rw [order_apply y num hnum hy, dif_pos la, show (⟨_, la⟩ : Fin 200) = rank num M ⟨a.val, ha⟩ from Fin.ext ea, hi]
  have le (a : Fin (2 ^ 8)) : col BitVec.toInt (order y) M a ≤ 255 := by
    show (order y (ix2 (n0 := 256) a M)).toInt ≤ 255
    rw [order_apply y num hnum hy]
    by_cases ha : a.val < 200
    · have := (fromN num M ⟨a.val, ha⟩).isLt
      rw [dif_pos ha, toInt_small _ (by omega)]; omega
    · rw [dif_neg ha]; decide
  rw [show sortRows (fun a b => minsi a b) (fun a b => maxsi a b) (order y) (ix2 r M) = _ from
    words_read (order y) M (rank num M) hρ (fun a b ha hb hab => ?_) (fun a b hb => ?_) r]
  · exact oc r hr
  · show (order y (ix2 (n0 := 256) (ext (rank num M) a) M)).toInt ≤ (order y (ix2 (n0 := 256) (ext (rank num M) b) M)).toInt
    rw [oc a ha, oc b hb, toInt_small _ (by omega), toInt_small _ (by omega)]
    have : a.val < b.val := hab
    omega
  · refine (le a).trans (le_of_eq ?_)
    show _ = (order y (ix2 (n0 := 256) b M)).toInt
    rw [order_apply y num hnum hy, dif_neg hb]; decide

omit hnum hy in
/-- A row of the matrix from one of the first 200. -/
def up (k : Fin 200) : Fin 256 := ⟨k.val, lt_trans k.isLt (by decide)⟩

/-- The sorted sample at the place whose order is `k`. -/
def put (M : Fin 1000) (k : BitVec 32) : EReal :=
  if h : k.toNat < 200 then sortedX x (ix2 (up (rank num M ⟨k.toNat, h⟩)) M) else (⊤ : EReal)

omit hnum hy in
theorem put_low (M : Fin 1000) (k : Fin 200) : put x num M (BitVec.ofNat 32 k.val) = sortedX x (ix2 (up (rank num M k)) M) := by
  have e : (BitVec.ofNat 32 k.val).toNat = k.val := by rw [BitVec.toNat_ofNat, Nat.mod_eq_of_lt (by omega)]
  have l : (BitVec.ofNat 32 k.val).toNat < 200 := by rw [e]; exact k.isLt
  unfold put
  rw [dif_pos l, show (⟨_, l⟩ : Fin 200) = k from Fin.ext e]

omit hnum hy in
theorem put_high (M : Fin 1000) : put x num M (BitVec.ofNat 32 255) = (⊤ : EReal) := by
  unfold put
  rw [dif_neg (show ¬ (BitVec.ofNat 32 255).toNat < 200 by decide)]

omit hnum hy in
/-- The sorted samples in the first 200 rows. -/
theorem sortedX_up (k : Fin 200) (M : Fin 1000) : sortedX x (ix2 (up k) M) = x (ix3 (0 : Fin 1) M (fromX x M k)) := by
  rw [sortedX_apply x (up k) M, dif_pos (show (up k).val < 200 from k.isLt)]
  rfl

/-- The sorted samples are a function of the order. -/
theorem follows : Follows (put x num) (order y) (sortedX x) := by
  intro r M
  have hπ : Function.Injective (fromN num M) := sortedFrom_injective _
  rw [order_apply y num hnum hy]
  by_cases hr : r.val < 200
  · have e : rank num M (fromN num M ⟨r.val, hr⟩) = ⟨r.val, hr⟩ := sorted_inverse (fromN num M) hπ ⟨r.val, hr⟩
    rw [dif_pos hr, put_low, e]
    rfl
  · rw [dif_neg hr, sortedX_apply, dif_neg hr, put_high]

/-- THE BLOCK, READ. -/
theorem block_apply (n : Fin 1000) (s : Fin 200) :
    block x y (ix2 n s) = x (ix3 (0 : Fin 1) n (fromX x n (rank num n s))) := by
  have G := follows_sort (follows x y num hnum hy) (up s) n
  rw [order_sorted y num hnum hy (up s) n s.isLt, show (up s).val = s.val from rfl, put_low, sortedX_up] at G
  unfold block
  rw [transpose_ix2_apply, slice2_axis0_apply 0 _ _ s n (up s) (Nat.zero_add _).symm]
  exact G

end

end Cert.KernelIdeal.Lane
-- ==== Proof.RefValue.lean ====
/-
  WHAT THE REFERENCE RETURNS, ENTRY BY ENTRY, over the extended reals: with table entries that are whole numbers over 2 ^ 23, sample s of lane
  n in a batch is the lane's sorted sample at the rank of gathered entry s.
-/
module

public import proofs.«01_k».proof.Proof.Take
public import proofs.«01_k».proof.Proof.Lane

@[expose] public section

set_option maxRecDepth 16384

noncomputable section

namespace Cert.ReferenceIdeal.Host

open Idealize.ShloMosaic Idealize.ShloMosaic.ValueIdx
open Cert.ReferenceIdeal Cert.ReferenceIdeal.Gen
open Cert.KernelIdeal.Lane (fromN rank toInt_small)

/-- A choice that leaves its operand where it equals the other. -/
theorem select_oeq (l z : EReal) : Scalar.select (Ideal.cmp .oeq l z) z l = l := by
  show (if BitVec.ofBool (decide (l = z)) = 1 then z else l) = l
  by_cases h : l = z
  · rw [decide_eq_true h, if_pos (show BitVec.ofBool true = 1 from rfl), h]
  · rw [decide_eq_false h, if_neg (by decide)]

/-- No extended real differs from itself. -/
theorem select_une (l q e : EReal) : Scalar.select (Ideal.cmp .une l l) q e = e := by
  show (if BitVec.ofBool (decide (l ≠ l)) = 1 then q else e) = e
  rw [decide_eq_false (not_not.mpr rfl), if_neg (by decide)]

/-- A word of one bit made from a truth value, asked back. -/
theorem ofBool_beq (p : Bool) : (BitVec.ofBool p == 1#1) = p := by cases p <;> rfl

/-- The comparator of samples is the order of the extended reals. -/
theorem compare_f (l r : EReal) : (comparator_f32_d2 (F := Ideal) l r == 1#1) = decide (l < r) := by
  show (Ideal.cmp .olt
    (Scalar.select (Ideal.cmp .une l l) _ (Scalar.select (Ideal.cmp .oeq l _) _ l))
    (Scalar.select (Ideal.cmp .une r r) _ (Scalar.select (Ideal.cmp .oeq r _) _ r)) == 1#1) = _
  rw [select_une, select_une]
  erw [select_oeq, select_oeq]
  exact ofBool_beq _

/-- The comparator of numbered entries looks at the entries alone. -/
theorem compare_fi (l r : EReal × BitVec 32) : (comparator_f32_i32_d1 (F := Ideal) l r == 1#1) = decide (l.1 < r.1) :=
  compare_f l.1 r.1

/-- The comparator of numbered words compares the words signed. -/
theorem compare_i (l r : BitVec 32 × BitVec 32) : (comparator_i32_i32_d1 l r == 1#1) = decide (l.1.toInt < r.1.toInt) :=
  ofBool_beq _

/-- An index moved along the last axis, -/
theorem along_last {a b c : Nat} (i : Fin a) (j : Fin b) (k l : Fin c) :
    Shape.Idx.along (s := ⟨3, ![a, b, c]⟩) (ix3 i j k) (2 : Fin 3) l = ix3 i j l := by
  funext d
  match d with
  | ⟨0, _⟩ => rfl
  | ⟨1, _⟩ => rfl
  | ⟨2, _⟩ => rfl
/-- and along the middle one. -/
theorem along_mid {a b c : Nat} (i : Fin a) (j l : Fin b) (k : Fin c) :
    Shape.Idx.along (s := ⟨3, ![a, b, c]⟩) (ix3 i j k) (1 : Fin 3) l = ix3 i l k := by
  funext d
  match d with
  | ⟨0, _⟩ => rfl
  | ⟨1, _⟩ => rfl
  | ⟨2, _⟩ => rfl

/-- The sorted samples, read. -/
theorem sorted_apply (x : FVec Ideal S128x1000x200 .f32) (b : Fin 128) (n : Fin 1000) (k : Fin 200) :
    sorted x (ix3 b n k) = x (ix3 b n (sortedFrom (fun p q : Fin 200 => decide ((x (ix3 b n p) : EReal) < x (ix3 b n q))) k)) := by
  have e : (fun p q : Fin 200 => comparator_f32_d2 (x (Shape.Idx.along (s := S128x1000x200) (ix3 b n k) (2 : Fin 3) p))
        (x (Shape.Idx.along (s := S128x1000x200) (ix3 b n k) (2 : Fin 3) q)) == 1#1)
      = fun p q => decide ((x (ix3 b n p) : EReal) < x (ix3 b n q)) := by
    funext p q
    rw [compare_f, along_last, along_last]
  show x (Shape.Idx.along (s := S128x1000x200) (ix3 b n k) (2 : Fin 3) (sortedFrom (fun p q : Fin 200 =>
    comparator_f32_d2 (x (Shape.Idx.along (s := S128x1000x200) (ix3 b n k) (2 : Fin 3) p))
        (x (Shape.Idx.along (s := S128x1000x200) (ix3 b n k) (2 : Fin 3) q)) == 1#1) k)) = _
  rw [e]
  exact congrArg x (along_last b n k _)

/-- The places that sort a middle axis, read: each is where the sort takes from, as a word. -/
theorem args_apply {α : Type} (cmp : α × BitVec 32 → α × BitVec 32 → BitVec 1) (before : α → α → Bool)
    (hcmp : ∀ l r, (cmp l r == 1#1) = before l.1 r.1) (y : S128x200x1000.Idx → α) (b : Fin 128) (s : Fin 200) (n : Fin 1000) :
    (Host.sort2 S128x200x1000 1 cmp y (iotaInDim S128x200x1000 32 1)).2 (ix3 b s n)
      = BitVec.ofNat 32 (sortedFrom (fun p q : Fin 200 => before (y (ix3 b p n)) (y (ix3 b q n))) s).val := by
  have e (σ : Fin 200 → Fin 200) (hσ : σ = sortedFrom fun p q : Fin 200 => before (y (ix3 b p n)) (y (ix3 b q n)))
      (τ : Fin 200 → Fin 200) (hτ : τ = sortedFrom fun p q : Fin 200 =>
        cmp (y (Shape.Idx.along (s := S128x200x1000) (ix3 b s n) (1 : Fin 3) p), iotaInDim S128x200x1000 32 1 (Shape.Idx.along (s := S128x200x1000) (ix3 b s n) (1 : Fin 3) p))
          (y (Shape.Idx.along (s := S128x200x1000) (ix3 b s n) (1 : Fin 3) q), iotaInDim S128x200x1000 32 1 (Shape.Idx.along (s := S128x200x1000) (ix3 b s n) (1 : Fin 3) q)) == 1#1) :
      iotaInDim S128x200x1000 32 1 (Shape.Idx.along (s := S128x200x1000) (ix3 b s n) (1 : Fin 3) (τ s)) = BitVec.ofNat 32 (σ s).val := by
    have st : τ = σ := by
      rw [hσ, hτ]
      refine congrArg sortedFrom ?_
      funext p q
      rw [hcmp, along_mid, along_mid]
    rw [st, along_mid]
    rfl
  exact e _ rfl _ rfl

/-- The ranks of a batch's entries, given as whole numbers over 2 ^ 23. -/
theorem ranks_apply (y : FVec Ideal S128x200x1000 .f32) (b : Fin 128) (num : Fin 1000 → Fin 200 → Nat)
    (hy : ∀ (n : Fin 1000) (s : Fin 200), (y (ix3 b s n) : EReal) = (((num n s : ℝ) / 8388608 : ℝ) : EReal)) (n : Fin 1000) (s : Fin 200) :
    ranks y (ix3 b n s) = BitVec.ofNat 32 (rank num n s).val := by
  have first (p : Fin 200) : argF y (ix3 b p n) = BitVec.ofNat 32 (fromN num n p).val := by
    refine (args_apply comparator_f32_i32_d1 (fun l r : EReal => decide (l < r)) compare_fi y b p n).trans ?_
    have e : (fun p q : Fin 200 => decide ((y (ix3 b p n) : EReal) < y (ix3 b q n))) = fun p q => decide (num n p < num n q) := by
      funext p q
      rw [hy, hy]
      exact decide_eq_decide.mpr (Cert.Grid.num_lt _ _)
    rw [e]
    rfl
  refine (transpose_ix3_021_apply _ _ b n s).trans ?_
  refine (args_apply comparator_i32_i32_d1 (fun l r => decide (l.toInt < r.toInt)) compare_i (argF y) b s n).trans ?_
  have e : (fun p q : Fin 200 => decide ((argF y (ix3 b p n)).toInt < (argF y (ix3 b q n)).toInt)) = fun p q => decide (fromN num n p < fromN num n q) := by
    funext p q
    have h₁ := (fromN num n p).isLt
    have h₂ := (fromN num n q).isLt
    rw [first, first, toInt_small _ (by omega), toInt_small _ (by omega)]
    exact decide_eq_decide.mpr (by rw [Fin.lt_def]; omega)
  rw [e]
  rfl

/-- Every rank is below 200. -/
theorem ranks_lt (y : FVec Ideal S128x200x1000 .f32) (w : S128x1000x200.Idx) : (ranks y w).toNat < 200 := by
  obtain ⟨b, n, s, rfl⟩ : ∃ (b : Fin 128) (n : Fin 1000) (s : Fin 200), w = ix3 b n s := ⟨w 0, w 1, w 2, eq_ix3 w⟩
  have e : ranks y (ix3 b n s) = _ := (transpose_ix3_021_apply _ _ b n s).trans
    (args_apply comparator_i32_i32_d1 (fun l r => decide (l.toInt < r.toInt)) compare_i (argF y) b s n)
  rw [e, BitVec.toNat_ofNat]
  exact lt_of_le_of_lt (Nat.mod_le _ _) (Fin.isLt _)

/-- THE RESULT, READ. -/
theorem result_apply (x : FVec Ideal S128x1000x200 .f32) (t : IVec S128x200 32) (e : FVec Ideal S8192x1000 .f32)
    (ht : ∀ w, (t w).toNat < 8192) (b : Fin 128) (num : Fin 1000 → Fin 200 → Nat)
    (he : ∀ (n : Fin 1000) (s : Fin 200), (e (ix2 (⟨(t (ix2 b s)).toNat, ht _⟩ : Fin 8192) n) : EReal) = (((num n s : ℝ) / 8388608 : ℝ) : EReal))
    (n : Fin 1000) (s : Fin 200) :
    along (sorted x) (places (ranks (taken e t))) (ix3 b n s)
      = x (ix3 b n (sortedFrom (fun p q : Fin 200 => decide ((x (ix3 b n p) : EReal) < x (ix3 b n q))) (rank num n s))) := by
  have hr : ranks (taken e t) (ix3 b n s) = BitVec.ofNat 32 (rank num n s).val :=
    ranks_apply (taken e t) b num (fun n s => (taken_apply e t ht b s n).trans (he n s)) n s
  rw [along_apply (sorted x) (ranks (taken e t)) (ranks_lt _) b n s, sorted_apply]
  have k : (⟨(ranks (taken e t) (ix3 b n s)).toNat, ranks_lt _ _⟩ : Fin 200) = rank num n s := by
    apply Fin.ext
    show (ranks (taken e t) (ix3 b n s)).toNat = _
    have := (rank num n s).isLt
    rw [hr, BitVec.toNat_ofNat, Nat.mod_eq_of_lt (by omega)]
  rw [k]

end Cert.ReferenceIdeal.Host
-- ==== Proof.Join.lean ====
/- The kernel's result is the reference's, and the claims that follow. -/
module

public import proofs.«01_k».proof.Proof.KernelValue
public import proofs.«01_k».proof.Proof.RefValue

@[expose] public section

set_option maxRecDepth 16384

noncomputable section

namespace Cert.Join

open Idealize.ShloMosaic Idealize.ShloMosaic.TcCoe Idealize.ShloMosaic.ValueIdx Idealize.SL.Sem
open Cert.KernelIdeal Cert.KernelIdeal.Frame Cert.KernelIdeal.Lane
open Cert.ReferenceIdeal.Host (sorted taken ranks places along result_apply)

variable (m : (ℓ : Loc nD τ sig) → Buf (Elt Ideal) ℓ)

/-- The three arguments. -/
abbrev samples : FVec Ideal S128x1000x200 .f32 := m (((0 : Dev nD) : Thread nD τ).loc main_arg0)
abbrev indices : IVec S128x200 32 := m (((0 : Dev nD) : Thread nD τ).loc main_arg1)
abbrev table : FVec Ideal S8192x1000 .f32 := m (((0 : Dev nD) : Thread nD τ).loc main_arg2)

section
variable (hT : ∀ w : S128x200.Idx, (indices m w).toNat < 8192) (b : Fin 128) (num : Fin 1000 → Fin 200 → Nat)
  (hnum : ∀ n s, num n s < 8388608)
  (he : ∀ (n : Fin 1000) (s : Fin 200),
    (table m (ix2 (⟨(indices m (ix2 b s)).toNat, hT _⟩ : Fin 8192) n) : EReal) = (((num n s : ℝ) / 8388608 : ℝ) : EReal))
include hnum he

/-- An entry of the kernel's result. -/
theorem kernel_apply (n : Fin 1000) (s : Fin 200) :
    result m 0 (ix3 b n s) = samples m (ix3 b n (sortedFrom
      (fun p q : Fin 200 => decide ((samples m (ix3 b n p) : EReal) < samples m (ix3 b n q))) (rank num n s))) := by
  have hb (q : Fin 200) : iblk m 0 0 (pt m b) (ix3 (0 : Fin 1) n q) = samples m (ix3 b n q) := iblk_0 m 0 (pt m b) n q
  have hx : fromX (iblk m 0 0 (pt m b)) n
      = sortedFrom (fun p q : Fin 200 => decide ((samples m (ix3 b n p) : EReal) < samples m (ix3 b n q))) := by
    unfold fromX
    refine congrArg sortedFrom ?_
    funext p q
    rw [hb, hb]
  have hk := block_apply (iblk m 0 0 (pt m b)) _ num hnum
    (fun n s => (gathered_apply m hT (pt m b) s n).trans (he n s)) n s
  unfold result
  refine hk.trans ?_
  rw [hx]
  exact hb _

/-- It is the reference's. -/
theorem same_apply (n : Fin 1000) (s : Fin 200) :
    result m 0 (ix3 b n s) = along (sorted (samples m)) (places (ranks (taken (table m) (indices m)))) (ix3 b n s) :=
  (kernel_apply m hT b num hnum he n s).trans (result_apply (samples m) (indices m) (table m) hT b num he n s).symm
end

/-- THE RESULTS ARE EQUAL, under the precondition. -/
theorem same (h : Cert.Pre_KernelIdeal_copula_inputs m) :
    result m 0 = along (sorted (samples m)) (places (ranks (taken (table m) (indices m)))) := by
  have hT : ∀ w : S128x200.Idx, (indices m w).toNat < 8192 := Cert.Range.words _ _ _ (Cert.Range.range_of_copula m h 0)
  have hE := Cert.Grid.entries _ _ _ (h 0).2
  refine funext fun (i : S128x1000x200.Idx) => ?_
  obtain ⟨b, n, s, rfl⟩ : ∃ (b : Fin 128) (n : Fin 1000) (s : Fin 200), i = ix3 b n s := ⟨i 0, i 1, i 2, eq_ix3 i⟩
  exact same_apply m hT b (fun n s => (hE (ix2 (⟨(indices m (ix2 b s)).toNat, hT _⟩ : Fin 8192) n)).choose)
    (fun n s => (hE _).choose_spec.1) (fun n s => (hE _).choose_spec.2) n s

/-- The value claim. -/
theorem algebraic : Cert.algebraic_KernelIdeal_ReferenceIdeal_pre_copula_inputs := by
  intro m g m' g' h hargs
  refine ⟨result m, ?_, ?_⟩
  · refine (θ_run Cert.KernelIdeal.defs _ _).mono (fun _ h => fun c => ?_)
      (run_arrays m g (Cert.Range.hyps m (Cert.Range.words _ _ _ (Cert.Range.range_of_copula m h 0))))
    exact ⟨(h.1 c).1.trans (final_eq m c), (h.1 c).2⟩
  · refine (θ_run Cert.ReferenceIdeal.defs _ _).mono (fun _ hr => fun c => ?_) (Cert.ReferenceIdeal.Host.run m' g')
    refine ⟨(hr.1 c).1.trans ?_, (hr.1 c).2⟩
    obtain rfl : c = 0 := Subsingleton.elim _ _
    rw [same m h, (hargs 0).1, (hargs 0).2.1, (hargs 0).2.2]

/-- The reference's frame, with no precondition and with the second. -/
theorem frame_reference : Cert.quiescent_ReferenceIdeal := fun m ρ _ =>
  (θ_run Cert.ReferenceIdeal.defs _ _).mono (fun _ h => ⟨fun c => (h.1 c).2, h.2⟩) (Cert.ReferenceIdeal.Host.run m ρ)
theorem frame_reference_copula : Cert.quiescent_ReferenceIdeal_pre_copula_inputs := fun m ρ _ => frame_reference m ρ trivial

end Cert.Join
-- ==== Proof.lean ====
/- The claim: the three frames, the first pass changing nothing, and the ideal kernel equal to the ideal reference. -/
module

public import proofs.«01_k».proof.Defs
public import proofs.«01_k».proof.Proof.Join

@[expose] public section

noncomputable section

namespace Cert.Proof

/-- The certificate's claim: the five parts, each from the module that proves it. -/
theorem claim : Cert.Claim :=
  ⟨Cert.Kernel.Gen.facts, Cert.KernelIdeal.Gen.facts, Cert.ReferenceIdeal.Gen.facts, Cert.Pre_indices_in_range.Gen.facts,
    Cert.Pre_copula_inputs.Gen.facts, Cert.Range.frame_kernel, Cert.Range.frame_ideal, Cert.Range.frame_ideal_copula,
    Cert.Join.frame_reference, Cert.Join.frame_reference_copula, trivial, Cert.Join.algebraic⟩

end Cert.Proof

end
